-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_XattnKernel (m : (ℓ : Loc Cert.XattnKernel.nD Cert.XattnKernel.τ Cert.XattnKernel.sig) → Buf (Elt Bits) ℓ) : Prop :=
  True

def Pre_XattnKernelIdeal (m : (ℓ : Loc Cert.XattnKernelIdeal.nD Cert.XattnKernelIdeal.τ Cert.XattnKernelIdeal.sig) → Buf (Elt Ideal) ℓ) : Prop :=
  True

def Pre_XattnKernelIdeal_greatest_score_finite [hPre_greatest_score_finite : Cert.Pre_greatest_score_finite.Facts] (m : (ℓ : Loc Cert.XattnKernelIdeal.nD Cert.XattnKernelIdeal.τ Cert.XattnKernelIdeal.sig) → Buf (Elt Ideal) ℓ) : Prop :=
  ∀ c : Dev Cert.XattnKernelIdeal.nD,
    (Cert.Pre_greatest_score_finite.fn (F := Ideal) (m ((c.tc : Thread Cert.XattnKernelIdeal.nD Cert.XattnKernelIdeal.τ).loc Cert.XattnKernelIdeal.main_arg0)) (m ((c.tc : Thread Cert.XattnKernelIdeal.nD Cert.XattnKernelIdeal.τ).loc Cert.XattnKernelIdeal.main_arg1)) (m ((c.tc : Thread Cert.XattnKernelIdeal.nD Cert.XattnKernelIdeal.τ).loc Cert.XattnKernelIdeal.main_arg2)) (m ((c.tc : Thread Cert.XattnKernelIdeal.nD Cert.XattnKernelIdeal.τ).loc Cert.XattnKernelIdeal.main_arg3)) (m ((c.tc : Thread Cert.XattnKernelIdeal.nD Cert.XattnKernelIdeal.τ).loc Cert.XattnKernelIdeal.main_arg4)) (m ((c.tc : Thread Cert.XattnKernelIdeal.nD Cert.XattnKernelIdeal.τ).loc Cert.XattnKernelIdeal.main_arg5))) = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_greatest_score_finite [hPre_greatest_score_finite : Cert.Pre_greatest_score_finite.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_greatest_score_finite.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5))) = (fun _ => 1#1)

def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_SsdReferenceIdeal (m : (ℓ : Loc Cert.SsdReferenceIdeal.nD Cert.SsdReferenceIdeal.τ Cert.SsdReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1))
      ∧ r.2.sem = fun _ => 0)

def quiescent_XattnKernel [hXattnKernel : Cert.XattnKernel.Facts] : Prop :=
  ∀ (m : (ℓ : Loc Cert.XattnKernel.nD Cert.XattnKernel.τ Cert.XattnKernel.sig) → Buf (Elt Bits) ℓ) (g : Dev Cert.XattnKernel.nD → PrngReg), Pre_XattnKernel m →
    θ_run (Cert.XattnKernel.defs (F := Bits)) (onTc (τ := Cert.XattnKernel.τ) (Cert.XattnKernel.main (F := Bits))) ⟨m, fun _ => 0, g⟩ (fun r => (∀ c : Dev Cert.XattnKernel.nD,
      r.2.mem ((c.tc : Thread Cert.XattnKernel.nD Cert.XattnKernel.τ).loc Cert.XattnKernel.main_arg0) = m ((c.tc : Thread Cert.XattnKernel.nD Cert.XattnKernel.τ).loc Cert.XattnKernel.main_arg0)
      ∧ r.2.mem ((c.tc : Thread Cert.XattnKernel.nD Cert.XattnKernel.τ).loc Cert.XattnKernel.main_arg1) = m ((c.tc : Thread Cert.XattnKernel.nD Cert.XattnKernel.τ).loc Cert.XattnKernel.main_arg1)
      ∧ r.2.mem ((c.tc : Thread Cert.XattnKernel.nD Cert.XattnKernel.τ).loc Cert.XattnKernel.main_arg2) = m ((c.tc : Thread Cert.XattnKernel.nD Cert.XattnKernel.τ).loc Cert.XattnKernel.main_arg2)
      ∧ r.2.mem ((c.tc : Thread Cert.XattnKernel.nD Cert.XattnKernel.τ).loc Cert.XattnKernel.main_arg3) = m ((c.tc : Thread Cert.XattnKernel.nD Cert.XattnKernel.τ).loc Cert.XattnKernel.main_arg3)
      ∧ r.2.mem ((c.tc : Thread Cert.XattnKernel.nD Cert.XattnKernel.τ).loc Cert.XattnKernel.main_arg4) = m ((c.tc : Thread Cert.XattnKernel.nD Cert.XattnKernel.τ).loc Cert.XattnKernel.main_arg4)
      ∧ r.2.mem ((c.tc : Thread Cert.XattnKernel.nD Cert.XattnKernel.τ).loc Cert.XattnKernel.main_arg5) = m ((c.tc : Thread Cert.XattnKernel.nD Cert.XattnKernel.τ).loc Cert.XattnKernel.main_arg5))
      ∧ r.2.sem = fun _ => 0)

def quiescent_XattnKernelIdeal [hXattnKernelIdeal : Cert.XattnKernelIdeal.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5))
      ∧ r.2.sem = fun _ => 0)

def quiescent_XattnKernelIdeal_pre_greatest_score_finite [hXattnKernelIdeal : Cert.XattnKernelIdeal.Facts] [hPre_greatest_score_finite : Cert.Pre_greatest_score_finite.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg), Pre_XattnKernelIdeal_greatest_score_finite m →
    θ_run (Cert.XattnKernelIdeal.defs (F := Ideal)) (onTc (τ := Cert.XattnKernelIdeal.τ) (Cert.XattnKernelIdeal.main (F := Ideal))) ⟨m, fun _ => 0, g⟩ (fun r => (∀ c : Dev Cert.XattnKernelIdeal.nD,
      r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
      ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
      ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
      ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
      ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
      ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5))
      ∧ r.2.sem = fun _ => 0)

def quiescent_XattnReferenceIdeal_pre_greatest_score_finite [hXattnReferenceIdeal : Cert.XattnReferenceIdeal.Facts] [hPre_greatest_score_finite : Cert.Pre_greatest_score_finite.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_greatest_score_finite m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5))
      ∧ r.2.sem = fun _ => 0)

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5)
      ∧ r.2.mem ((c.tc : Thread Cert.SsdKernel.nD Cert.SsdKernel.τ).loc Cert.SsdKernel.main_arg6) = m ((c.tc : Thread Cert.SsdKernel.nD Cert.SsdKernel.τ).loc Cert.SsdKernel.main_arg6)
      ∧ r.2.mem ((c.tc : Thread Cert.SsdKernel.nD Cert.SsdKernel.τ).loc Cert.SsdKernel.main_arg7) = m ((c.tc : Thread Cert.SsdKernel.nD Cert.SsdKernel.τ).loc Cert.SsdKernel.main_arg7)
      ∧ r.2.mem ((c.tc : Thread Cert.SsdKernel.nD Cert.SsdKernel.τ).loc Cert.SsdKernel.main_arg8) = m ((c.tc : Thread Cert.SsdKernel.nD Cert.SsdKernel.τ).loc Cert.SsdKernel.main_arg8))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7)
      ∧ r.2.mem ((c.tc : Thread Cert.SsdKernelIdeal.nD Cert.SsdKernelIdeal.τ).loc Cert.SsdKernelIdeal.main_arg8) = m ((c.tc : Thread Cert.SsdKernelIdeal.nD Cert.SsdKernelIdeal.τ).loc Cert.SsdKernelIdeal.main_arg8))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7)
      ∧ r.2.mem ((c.tc : Thread Cert.SsdReferenceIdeal.nD Cert.SsdReferenceIdeal.τ).loc Cert.SsdReferenceIdeal.main_arg8) = m ((c.tc : Thread Cert.SsdReferenceIdeal.nD Cert.SsdReferenceIdeal.τ).loc Cert.SsdReferenceIdeal.main_arg8))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v9)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v9) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v39) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v25_0)) (v1 : (c : Dev Cert.ProjKernelIdeal.nD) → Buf (Elt Ideal) ((c.tc : Thread Cert.ProjKernelIdeal.nD Cert.ProjKernelIdeal.τ).loc Cert.ProjKernelIdeal.main_v25_1)) (v2 : (c : Dev Cert.ProjKernelIdeal.nD) → Buf (Elt Ideal) ((c.tc : Thread Cert.ProjKernelIdeal.nD Cert.ProjKernelIdeal.τ).loc Cert.ProjKernelIdeal.main_v25_2)) (v3 : (c : Dev Cert.ProjKernelIdeal.nD) → Buf (Elt Ideal) ((c.tc : Thread Cert.ProjKernelIdeal.nD Cert.ProjKernelIdeal.τ).loc Cert.ProjKernelIdeal.main_v25_3)) (v4 : (c : Dev Cert.ProjKernelIdeal.nD) → Buf (Elt Ideal) ((c.tc : Thread Cert.ProjKernelIdeal.nD Cert.ProjKernelIdeal.τ).loc Cert.ProjKernelIdeal.main_v25_4)) (v5 : (c : Dev Cert.ProjKernelIdeal.nD) → Buf (Elt Ideal) ((c.tc : Thread Cert.ProjKernelIdeal.nD Cert.ProjKernelIdeal.τ).loc Cert.ProjKernelIdeal.main_v25_5)) (v6 : (c : Dev Cert.ProjKernelIdeal.nD) → Buf (Elt Ideal) ((c.tc : Thread Cert.ProjKernelIdeal.nD Cert.ProjKernelIdeal.τ).loc Cert.ProjKernelIdeal.main_v25_6)) (v7 : (c : Dev Cert.ProjKernelIdeal.nD) → Buf (Elt Ideal) ((c.tc : Thread Cert.ProjKernelIdeal.nD Cert.ProjKernelIdeal.τ).loc Cert.ProjKernelIdeal.main_v25_7)) (v8 : (c : Dev Cert.ProjKernelIdeal.nD) → Buf (Elt Ideal) ((c.tc : Thread Cert.ProjKernelIdeal.nD Cert.ProjKernelIdeal.τ).loc Cert.ProjKernelIdeal.main_v25_8)) (v9 : (c : Dev Cert.ProjKernelIdeal.nD) → Buf (Elt Ideal) ((c.tc : Thread Cert.ProjKernelIdeal.nD Cert.ProjKernelIdeal.τ).loc Cert.ProjKernelIdeal.main_v25_9)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v25_0) = v0 c
          ∧ r.2.mem ((c.tc : Thread Cert.ProjKernelIdeal.nD Cert.ProjKernelIdeal.τ).loc Cert.ProjKernelIdeal.main_v25_1) = v1 c
          ∧ r.2.mem ((c.tc : Thread Cert.ProjKernelIdeal.nD Cert.ProjKernelIdeal.τ).loc Cert.ProjKernelIdeal.main_v25_2) = v2 c
          ∧ r.2.mem ((c.tc : Thread Cert.ProjKernelIdeal.nD Cert.ProjKernelIdeal.τ).loc Cert.ProjKernelIdeal.main_v25_3) = v3 c
          ∧ r.2.mem ((c.tc : Thread Cert.ProjKernelIdeal.nD Cert.ProjKernelIdeal.τ).loc Cert.ProjKernelIdeal.main_v25_4) = v4 c
          ∧ r.2.mem ((c.tc : Thread Cert.ProjKernelIdeal.nD Cert.ProjKernelIdeal.τ).loc Cert.ProjKernelIdeal.main_v25_5) = v5 c
          ∧ r.2.mem ((c.tc : Thread Cert.ProjKernelIdeal.nD Cert.ProjKernelIdeal.τ).loc Cert.ProjKernelIdeal.main_v25_6) = v6 c
          ∧ r.2.mem ((c.tc : Thread Cert.ProjKernelIdeal.nD Cert.ProjKernelIdeal.τ).loc Cert.ProjKernelIdeal.main_v25_7) = v7 c
          ∧ r.2.mem ((c.tc : Thread Cert.ProjKernelIdeal.nD Cert.ProjKernelIdeal.τ).loc Cert.ProjKernelIdeal.main_v25_8) = v8 c
          ∧ r.2.mem ((c.tc : Thread Cert.ProjKernelIdeal.nD Cert.ProjKernelIdeal.τ).loc Cert.ProjKernelIdeal.main_v25_9) = v9 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v42) = v0 c
          ∧ r.2.mem ((c.tc : Thread Cert.ProjReferenceIdeal.nD Cert.ProjReferenceIdeal.τ).loc Cert.ProjReferenceIdeal.main_v44) = v1 c
          ∧ r.2.mem ((c.tc : Thread Cert.ProjReferenceIdeal.nD Cert.ProjReferenceIdeal.τ).loc Cert.ProjReferenceIdeal.main_v45) = v2 c
          ∧ r.2.mem ((c.tc : Thread Cert.ProjReferenceIdeal.nD Cert.ProjReferenceIdeal.τ).loc Cert.ProjReferenceIdeal.main_v46) = v3 c
          ∧ r.2.mem ((c.tc : Thread Cert.ProjReferenceIdeal.nD Cert.ProjReferenceIdeal.τ).loc Cert.ProjReferenceIdeal.main_v47) = v4 c
          ∧ r.2.mem ((c.tc : Thread Cert.ProjReferenceIdeal.nD Cert.ProjReferenceIdeal.τ).loc Cert.ProjReferenceIdeal.main_v49) = v5 c
          ∧ r.2.mem ((c.tc : Thread Cert.ProjReferenceIdeal.nD Cert.ProjReferenceIdeal.τ).loc Cert.ProjReferenceIdeal.main_v51) = v6 c
          ∧ r.2.mem ((c.tc : Thread Cert.ProjReferenceIdeal.nD Cert.ProjReferenceIdeal.τ).loc Cert.ProjReferenceIdeal.main_v52) = v7 c
          ∧ r.2.mem ((c.tc : Thread Cert.ProjReferenceIdeal.nD Cert.ProjReferenceIdeal.τ).loc Cert.ProjReferenceIdeal.main_v7) = v8 c
          ∧ r.2.mem ((c.tc : Thread Cert.ProjReferenceIdeal.nD Cert.ProjReferenceIdeal.τ).loc Cert.ProjReferenceIdeal.main_v53) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v17)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v17) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v43) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)) →
    ∃ (v0 : (c : Dev Cert.MemKernelIdeal.nD) → Buf (Elt Ideal) ((c.tc : Thread Cert.MemKernelIdeal.nD Cert.MemKernelIdeal.τ).loc Cert.MemKernelIdeal.main_v3)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v3) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v3) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1))

def preserves_XattnKernel_XattnKernelIdeal : Prop :=
  True

def algebraic_XattnKernelIdeal_XattnReferenceIdeal_pre_greatest_score_finite [hXattnKernelIdeal : Cert.XattnKernelIdeal.Facts] [hXattnReferenceIdeal : Cert.XattnReferenceIdeal.Facts] [hPre_greatest_score_finite : Cert.Pre_greatest_score_finite.Facts] : Prop :=
  ∀ (m : (ℓ : Loc Cert.XattnKernelIdeal.nD Cert.XattnKernelIdeal.τ Cert.XattnKernelIdeal.sig) → Buf (Elt Ideal) ℓ) (g : Dev Cert.XattnKernelIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnKernelIdeal_greatest_score_finite m →
    (∀ c : Dev Cert.XattnKernelIdeal.nD,
      m' ((c.tc : Thread Cert.XattnReferenceIdeal.nD Cert.XattnReferenceIdeal.τ).loc Cert.XattnReferenceIdeal.main_arg0) = m ((c.tc : Thread Cert.XattnKernelIdeal.nD Cert.XattnKernelIdeal.τ).loc Cert.XattnKernelIdeal.main_arg0)
      ∧ m' ((c.tc : Thread Cert.XattnReferenceIdeal.nD Cert.XattnReferenceIdeal.τ).loc Cert.XattnReferenceIdeal.main_arg1) = m ((c.tc : Thread Cert.XattnKernelIdeal.nD Cert.XattnKernelIdeal.τ).loc Cert.XattnKernelIdeal.main_arg1)
      ∧ m' ((c.tc : Thread Cert.XattnReferenceIdeal.nD Cert.XattnReferenceIdeal.τ).loc Cert.XattnReferenceIdeal.main_arg2) = m ((c.tc : Thread Cert.XattnKernelIdeal.nD Cert.XattnKernelIdeal.τ).loc Cert.XattnKernelIdeal.main_arg2)
      ∧ m' ((c.tc : Thread Cert.XattnReferenceIdeal.nD Cert.XattnReferenceIdeal.τ).loc Cert.XattnReferenceIdeal.main_arg3) = m ((c.tc : Thread Cert.XattnKernelIdeal.nD Cert.XattnKernelIdeal.τ).loc Cert.XattnKernelIdeal.main_arg3)
      ∧ m' ((c.tc : Thread Cert.XattnReferenceIdeal.nD Cert.XattnReferenceIdeal.τ).loc Cert.XattnReferenceIdeal.main_arg4) = m ((c.tc : Thread Cert.XattnKernelIdeal.nD Cert.XattnKernelIdeal.τ).loc Cert.XattnKernelIdeal.main_arg4)
      ∧ m' ((c.tc : Thread Cert.XattnReferenceIdeal.nD Cert.XattnReferenceIdeal.τ).loc Cert.XattnReferenceIdeal.main_arg5) = m ((c.tc : Thread Cert.XattnKernelIdeal.nD Cert.XattnKernelIdeal.τ).loc Cert.XattnKernelIdeal.main_arg5)) →
    ∃ (v0 : (c : Dev Cert.XattnKernelIdeal.nD) → Buf (Elt Ideal) ((c.tc : Thread Cert.XattnKernelIdeal.nD Cert.XattnKernelIdeal.τ).loc Cert.XattnKernelIdeal.main_v11)),
      θ_run (Cert.XattnKernelIdeal.defs (F := Ideal)) (onTc (τ := Cert.XattnKernelIdeal.τ) (Cert.XattnKernelIdeal.main (F := Ideal))) ⟨m, fun _ => 0, g⟩ (fun r => ∀ c : Dev Cert.XattnKernelIdeal.nD,
          r.2.mem ((c.tc : Thread Cert.XattnKernelIdeal.nD Cert.XattnKernelIdeal.τ).loc Cert.XattnKernelIdeal.main_v11) = v0 c
          ∧ r.2.mem ((c.tc : Thread Cert.XattnKernelIdeal.nD Cert.XattnKernelIdeal.τ).loc Cert.XattnKernelIdeal.main_arg0) = m ((c.tc : Thread Cert.XattnKernelIdeal.nD Cert.XattnKernelIdeal.τ).loc Cert.XattnKernelIdeal.main_arg0)
          ∧ r.2.mem ((c.tc : Thread Cert.XattnKernelIdeal.nD Cert.XattnKernelIdeal.τ).loc Cert.XattnKernelIdeal.main_arg1) = m ((c.tc : Thread Cert.XattnKernelIdeal.nD Cert.XattnKernelIdeal.τ).loc Cert.XattnKernelIdeal.main_arg1)
          ∧ r.2.mem ((c.tc : Thread Cert.XattnKernelIdeal.nD Cert.XattnKernelIdeal.τ).loc Cert.XattnKernelIdeal.main_arg2) = m ((c.tc : Thread Cert.XattnKernelIdeal.nD Cert.XattnKernelIdeal.τ).loc Cert.XattnKernelIdeal.main_arg2)
          ∧ r.2.mem ((c.tc : Thread Cert.XattnKernelIdeal.nD Cert.XattnKernelIdeal.τ).loc Cert.XattnKernelIdeal.main_arg3) = m ((c.tc : Thread Cert.XattnKernelIdeal.nD Cert.XattnKernelIdeal.τ).loc Cert.XattnKernelIdeal.main_arg3)
          ∧ r.2.mem ((c.tc : Thread Cert.XattnKernelIdeal.nD Cert.XattnKernelIdeal.τ).loc Cert.XattnKernelIdeal.main_arg4) = m ((c.tc : Thread Cert.XattnKernelIdeal.nD Cert.XattnKernelIdeal.τ).loc Cert.XattnKernelIdeal.main_arg4)
          ∧ r.2.mem ((c.tc : Thread Cert.XattnKernelIdeal.nD Cert.XattnKernelIdeal.τ).loc Cert.XattnKernelIdeal.main_arg5) = m ((c.tc : Thread Cert.XattnKernelIdeal.nD Cert.XattnKernelIdeal.τ).loc Cert.XattnKernelIdeal.main_arg5))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v55) = v0 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5))

def preserves_SsdKernel_SsdKernelIdeal : Prop :=
  IdealRules.named_const.Statement Cert.SsdKernelIdeal.κ "mask" .f32 0xF149F2CA#32 ⊥

def algebraic_SsdKernelIdeal_SsdReferenceIdeal [hSsdKernelIdeal : Cert.SsdKernelIdeal.Facts] [hSsdReferenceIdeal : Cert.SsdReferenceIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdKernelIdeal m →
    (∀ c : Dev Cert.SsdKernelIdeal.nD,
      m' ((c.tc : Thread Cert.SsdReferenceIdeal.nD Cert.SsdReferenceIdeal.τ).loc Cert.SsdReferenceIdeal.main_arg0) = m ((c.tc : Thread Cert.SsdKernelIdeal.nD Cert.SsdKernelIdeal.τ).loc Cert.SsdKernelIdeal.main_arg0)
      ∧ m' ((c.tc : Thread Cert.SsdReferenceIdeal.nD Cert.SsdReferenceIdeal.τ).loc Cert.SsdReferenceIdeal.main_arg1) = m ((c.tc : Thread Cert.SsdKernelIdeal.nD Cert.SsdKernelIdeal.τ).loc Cert.SsdKernelIdeal.main_arg1)
      ∧ m' ((c.tc : Thread Cert.SsdReferenceIdeal.nD Cert.SsdReferenceIdeal.τ).loc Cert.SsdReferenceIdeal.main_arg2) = m ((c.tc : Thread Cert.SsdKernelIdeal.nD Cert.SsdKernelIdeal.τ).loc Cert.SsdKernelIdeal.main_arg2)
      ∧ m' ((c.tc : Thread Cert.SsdReferenceIdeal.nD Cert.SsdReferenceIdeal.τ).loc Cert.SsdReferenceIdeal.main_arg3) = m ((c.tc : Thread Cert.SsdKernelIdeal.nD Cert.SsdKernelIdeal.τ).loc Cert.SsdKernelIdeal.main_arg3)
      ∧ m' ((c.tc : Thread Cert.SsdReferenceIdeal.nD Cert.SsdReferenceIdeal.τ).loc Cert.SsdReferenceIdeal.main_arg4) = m ((c.tc : Thread Cert.SsdKernelIdeal.nD Cert.SsdKernelIdeal.τ).loc Cert.SsdKernelIdeal.main_arg4)
      ∧ m' ((c.tc : Thread Cert.SsdReferenceIdeal.nD Cert.SsdReferenceIdeal.τ).loc Cert.SsdReferenceIdeal.main_arg5) = m ((c.tc : Thread Cert.SsdKernelIdeal.nD Cert.SsdKernelIdeal.τ).loc Cert.SsdKernelIdeal.main_arg5)
      ∧ m' ((c.tc : Thread Cert.SsdReferenceIdeal.nD Cert.SsdReferenceIdeal.τ).loc Cert.SsdReferenceIdeal.main_arg6) = m ((c.tc : Thread Cert.SsdKernelIdeal.nD Cert.SsdKernelIdeal.τ).loc Cert.SsdKernelIdeal.main_arg6)
      ∧ m' ((c.tc : Thread Cert.SsdReferenceIdeal.nD Cert.SsdReferenceIdeal.τ).loc Cert.SsdReferenceIdeal.main_arg7) = m ((c.tc : Thread Cert.SsdKernelIdeal.nD Cert.SsdKernelIdeal.τ).loc Cert.SsdKernelIdeal.main_arg7)
      ∧ m' ((c.tc : Thread Cert.SsdReferenceIdeal.nD Cert.SsdReferenceIdeal.τ).loc Cert.SsdReferenceIdeal.main_arg8) = m ((c.tc : Thread Cert.SsdKernelIdeal.nD Cert.SsdKernelIdeal.τ).loc Cert.SsdKernelIdeal.main_arg8)) →
    ∃ (v0 : (c : Dev Cert.SsdKernelIdeal.nD) → Buf (Elt Ideal) ((c.tc : Thread Cert.SsdKernelIdeal.nD Cert.SsdKernelIdeal.τ).loc Cert.SsdKernelIdeal.main_v26)),
      θ_run (Cert.SsdKernelIdeal.defs (F := Ideal)) (onTc (τ := Cert.SsdKernelIdeal.τ) (Cert.SsdKernelIdeal.main (F := Ideal))) ⟨m, fun _ => 0, g⟩ (fun r => ∀ c : Dev Cert.SsdKernelIdeal.nD,
          r.2.mem ((c.tc : Thread Cert.SsdKernelIdeal.nD Cert.SsdKernelIdeal.τ).loc Cert.SsdKernelIdeal.main_v26) = v0 c
          ∧ r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
          ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
          ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
          ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
          ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
          ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
          ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
          ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7)
          ∧ r.2.mem ((c.tc : Thread Cert.SsdKernelIdeal.nD Cert.SsdKernelIdeal.τ).loc Cert.SsdKernelIdeal.main_arg8) = m ((c.tc : Thread Cert.SsdKernelIdeal.nD Cert.SsdKernelIdeal.τ).loc Cert.SsdKernelIdeal.main_arg8))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v102) = v0 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5)
          ∧ r.2.mem ((c.tc : Thread Cert.SsdReferenceIdeal.nD Cert.SsdReferenceIdeal.τ).loc Cert.SsdReferenceIdeal.main_arg6) = m' ((c.tc : Thread Cert.SsdReferenceIdeal.nD Cert.SsdReferenceIdeal.τ).loc Cert.SsdReferenceIdeal.main_arg6)
          ∧ r.2.mem ((c.tc : Thread Cert.SsdReferenceIdeal.nD Cert.SsdReferenceIdeal.τ).loc Cert.SsdReferenceIdeal.main_arg7) = m' ((c.tc : Thread Cert.SsdReferenceIdeal.nD Cert.SsdReferenceIdeal.τ).loc Cert.SsdReferenceIdeal.main_arg7)
          ∧ r.2.mem ((c.tc : Thread Cert.SsdReferenceIdeal.nD Cert.SsdReferenceIdeal.τ).loc Cert.SsdReferenceIdeal.main_arg8) = m' ((c.tc : Thread Cert.SsdReferenceIdeal.nD Cert.SsdReferenceIdeal.τ).loc Cert.SsdReferenceIdeal.main_arg8))

def Claim : Prop :=
  ∃ (hFfnKernel : Cert.FfnKernel.Facts) (hFfnKernelIdeal : Cert.FfnKernelIdeal.Facts) (hFfnReferenceIdeal : Cert.FfnReferenceIdeal.Facts) (hProjKernel : Cert.ProjKernel.Facts) (hProjKernelIdeal : Cert.ProjKernelIdeal.Facts) (hProjReferenceIdeal : Cert.ProjReferenceIdeal.Facts) (hMergeKernel : Cert.MergeKernel.Facts) (hMergeKernelIdeal : Cert.MergeKernelIdeal.Facts) (hMergeReferenceIdeal : Cert.MergeReferenceIdeal.Facts) (hMemKernel : Cert.MemKernel.Facts) (hMemKernelIdeal : Cert.MemKernelIdeal.Facts) (hMemReferenceIdeal : Cert.MemReferenceIdeal.Facts) (hXattnKernel : Cert.XattnKernel.Facts) (hXattnKernelIdeal : Cert.XattnKernelIdeal.Facts) (hXattnReferenceIdeal : Cert.XattnReferenceIdeal.Facts) (hSsdKernel : Cert.SsdKernel.Facts) (hSsdKernelIdeal : Cert.SsdKernelIdeal.Facts) (hSsdReferenceIdeal : Cert.SsdReferenceIdeal.Facts) (hPre_greatest_score_finite : Cert.Pre_greatest_score_finite.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_XattnKernel (hXattnKernel := hXattnKernel)
    ∧ quiescent_XattnKernelIdeal (hXattnKernelIdeal := hXattnKernelIdeal)
    ∧ quiescent_XattnKernelIdeal_pre_greatest_score_finite (hXattnKernelIdeal := hXattnKernelIdeal) (hPre_greatest_score_finite := hPre_greatest_score_finite)
    ∧ quiescent_XattnReferenceIdeal (hXattnReferenceIdeal := hXattnReferenceIdeal)
    ∧ quiescent_XattnReferenceIdeal_pre_greatest_score_finite (hXattnReferenceIdeal := hXattnReferenceIdeal) (hPre_greatest_score_finite := hPre_greatest_score_finite)
    ∧ quiescent_SsdKernel (hSsdKernel := hSsdKernel)
    ∧ quiescent_SsdKernelIdeal (hSsdKernelIdeal := hSsdKernelIdeal)
    ∧ quiescent_SsdReferenceIdeal (hSsdReferenceIdeal := hSsdReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_MemKernel_MemKernelIdeal
    ∧ algebraic_MemKernelIdeal_MemReferenceIdeal (hMemKernelIdeal := hMemKernelIdeal) (hMemReferenceIdeal := hMemReferenceIdeal)
    ∧ preserves_XattnKernel_XattnKernelIdeal
    ∧ algebraic_XattnKernelIdeal_XattnReferenceIdeal_pre_greatest_score_finite (hXattnKernelIdeal := hXattnKernelIdeal) (hXattnReferenceIdeal := hXattnReferenceIdeal) (hPre_greatest_score_finite := hPre_greatest_score_finite)
    ∧ preserves_SsdKernel_SsdKernelIdeal
    ∧ algebraic_SsdKernelIdeal_SsdReferenceIdeal (hSsdKernelIdeal := hSsdKernelIdeal) (hSsdReferenceIdeal := hSsdReferenceIdeal)
-- ==== Pre_greatest_score_finite.lean ====
abbrev S4x4096x1024 : Shape := ⟨3, ![4, 4096, 1024]⟩
abbrev S4x256x2048 : Shape := ⟨3, ![4, 256, 2048]⟩
abbrev S1x1024x1024 : Shape := ⟨3, ![1, 1024, 1024]⟩
abbrev S1x1024 : Shape := ⟨2, ![1, 1024]⟩
abbrev S1024x1024 : Shape := ⟨2, ![1024, 1024]⟩
abbrev S4x4096x4x256 : Shape := ⟨4, ![4, 4096, 4, 256]⟩
abbrev S4x256x1024 : Shape := ⟨3, ![4, 256, 1024]⟩
abbrev S4x256x4x256 : Shape := ⟨4, ![4, 256, 4, 256]⟩
abbrev S4x4x4096x256 : Shape := ⟨4, ![4, 4, 4096, 256]⟩
abbrev S_ : Shape := ⟨0, ![]⟩
abbrev S4x4x4096 : Shape := ⟨3, ![4, 4, 4096]⟩

class Facts : Prop where
  shapeCasts_S1x1024x1024_S1024x1024 : S1x1024x1024.ShapeCasts S1024x1024
  shapeCasts_S4x4096x1024_S4x4096x4x256 : S4x4096x1024.ShapeCasts S4x4096x4x256
  slices_S4x256x2048_S4x256x1024_0_0_0 : S4x256x2048.Slices ![0, 0, 0] S4x256x1024
  shapeCasts_S4x256x1024_S4x256x4x256 : S4x256x1024.ShapeCasts S4x256x4x256
  reducesTo_S4x4x4096x256_S4x4x4096_d3 : S4x4x4096x256.ReducesTo [3] S4x4x4096
  h_S_ : 0 < S_.numel
  bcast_S_S4x4x4096 : S_.BroadcastsInDim S4x4x4096 (![] : Fin 0 → Fin S4x4x4096.rank)
  dot_S4x4096x1024_S1024x1024_S4x4096x1024_2_0_01_1_n_n_wf : DotDims.WF S4x4096x1024 S1024x1024 S4x4096x1024 [2] [0] [0, 1] [1] [] []
  dot_S4x4096x4x256_S4x256x4x256_S4x4x4096x256_3_3_1_1_02_02_wf : DotDims.WF S4x4096x4x256 S4x256x4x256 S4x4x4096x256 [3] [3] [1] [1] [0, 2] [0, 2]

variable [Facts]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x4x256_S4x256x4x256_S4x4x4096x256_3_3_1_1_02_02 : DotDims S4x4096x4x256 S4x256x4x256 S4x4x4096x256 where
  lhsContracting := [3]
  rhsContracting := [3]
  lhsNonContracting := [1]
  rhsNonContracting := [1]
  lhsBatch := [0, 2]
  rhsBatch := [0, 2]
  wf := dot_S4x4096x4x256_S4x256x4x256_S4x4x4096x256_3_3_1_1_02_02_wf
def fn {F : FTy → Type} [FloatOps F] (main_arg0 : FVec F S4x4096x1024 .f32) (main_arg1 : FVec F S4x256x2048 .f32) (main_arg2 : FVec F S1x1024x1024 .f32) (main_arg3 : FVec F S1x1024x1024 .f32) (main_arg4 : FVec F S1x1024 .f32) (main_arg5 : FVec F S1x1024 .f32) : IVec S4x4x4096 1 :=
  let main_v0 : FVec F S1024x1024 .f32 := shapeCast S1024x1024 main_arg2 shapeCasts_S1x1024x1024_S1024x1024
  let main_v1 : FVec F S4x4096x1024 .f32 := (fun l r => Host.dotGeneral dot_S4x4096x1024_S1024x1024_S4x4096x1024_2_0_01_1_n_n none l r) main_arg0 main_v0
  let main_v2 : FVec F S4x4096x4x256 .f32 := shapeCast S4x4096x4x256 main_v1 shapeCasts_S4x4096x1024_S4x4096x4x256
  let main_v3 : FVec F S4x256x1024 .f32 := (extractStridedSlice S4x256x1024 ![0, 0, 0] · slices_S4x256x2048_S4x256x1024_0_0_0) main_arg1
  let main_v4 : FVec F S4x256x4x256 .f32 := shapeCast S4x256x4x256 main_v3 shapeCasts_S4x256x1024_S4x256x4x256
  let main_v5 : FVec F S4x4x4096x256 .f32 := (fun l r => Host.dotGeneral dot_S4x4096x4x256_S4x256x4x256_S4x4x4096x256_3_3_1_1_02_02 none l r) main_v2 main_v4
  let main_cst : FVec F S_ .f32 := constant S_ .f32 0xFF800000#32
  let main_v6 : FVec F S4x4x4096 .f32 := (fun x v => Host.reduce FloatOps.maximumf x v reducesTo_S4x4x4096x256_S4x4x4096_d3 h_S_) main_v5 main_cst
  let main_v7 : FVec F S4x4x4096 .f32 := Host.absf main_v6
  let main_cst_0 : FVec F S_ .f32 := constant S_ .f32 0x7F800000#32
  let main_v8 : FVec F S4x4x4096 .f32 := broadcastInDim S4x4x4096 ![] bcast_S_S4x4x4096 main_cst_0
  let main_v9 : IVec S4x4x4096 1 := cmpf .olt main_v7 main_v8
  main_v9
-- ==== FfnKernel.lean ====
abbrev S4x4096x1024 : Shape := ⟨3, ![4, 4096, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S512x1024 : Shape := ⟨2, ![512, 1024]⟩
abbrev S1024x2816 : Shape := ⟨2, ![1024, 2816]⟩
abbrev S512x2816 : Shape := ⟨2, ![512, 2816]⟩
abbrev S512 : Shape := ⟨1, ![512]⟩
abbrev S512x1 : Shape := ⟨2, ![512, 1]⟩

abbrev nBuf : Space → Nat
  | .hbm => 15
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1024x5632, .f32⟩
  | .hbm, ⟨7, _⟩ => ⟨S1024x5632, .bf16⟩
  | .hbm, ⟨8, _⟩ => ⟨S2816x1024, .f32⟩
  | .hbm, ⟨9, _⟩ => ⟨S2816x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S4x4096x1024 : Shape := ⟨3, ![4, 4096, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩
abbrev S2816x1024 : Shape := ⟨2, ![2816, 1024]⟩
abbrev S16384 : Shape := ⟨1, ![16384]⟩
abbrev S16384x1 : Shape := ⟨2, ![16384, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x5632, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S1024x5632, .f32⟩
  | .hbm, ⟨7, _⟩ => ⟨S16384x5632, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S2816x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== ProjKernel.lean ====
abbrev S4x4096x1024 : Shape := ⟨3, ![4, 4096, 1024]⟩
abbrev S1x1024x7520 : Shape := ⟨3, ![1, 1024, 7520]⟩
abbrev S1x256 : Shape := ⟨2, ![1, 256]⟩
abbrev S16384x1024 : Shape := ⟨2, ![16384, 1024]⟩
abbrev S1024x7520 : Shape := ⟨2, ![1024, 7520]⟩
abbrev S7520x1024 : Shape := ⟨2, ![7520, 1024]⟩
abbrev S1024x1024 : Shape := ⟨2, ![1024, 1024]⟩
abbrev S2048x1024 : Shape := ⟨2, ![2048, 1024]⟩
abbrev S16x1024 : Shape := ⟨2, ![16, 1024]⟩
abbrev S256x1024 : Shape := ⟨2, ![256, 1024]⟩
abbrev S64x1024 : Shape := ⟨2, ![64, 1024]⟩
abbrev S_ : Shape := ⟨0, ![]⟩
abbrev S32x1024 : Shape := ⟨2, ![32, 1024]⟩
abbrev S128x1024 : Shape := ⟨2, ![128, 1024]⟩
abbrev S256 : Shape := ⟨1, ![256]⟩
abbrev S16384x2048 : Shape := ⟨2, ![16384, 2048]⟩
abbrev S16384x256 : Shape := ⟨2, ![16384, 256]⟩
abbrev S256x16384 : Shape := ⟨2, ![256, 16384]⟩
abbrev S1024x16384 : Shape := ⟨2, ![1024, 16384]⟩
abbrev S16384x64 : Shape := ⟨2, ![16384, 64]⟩
abbrev S16384x16 : Shape := ⟨2, ![16384, 16]⟩
abbrev S16x16384 : Shape := ⟨2, ![16, 16384]⟩
abbrev S512x1024 : Shape := ⟨2, ![512, 1024]⟩
abbrev S512x2048 : Shape := ⟨2, ![512, 2048]⟩
abbrev S512x256 : Shape := ⟨2, ![512, 256]⟩
abbrev S256x512 : Shape := ⟨2, ![256, 512]⟩
abbrev S1024x512 : Shape := ⟨2, ![1024, 512]⟩
abbrev S512x64 : Shape := ⟨2, ![512, 64]⟩
abbrev S512x16 : Shape := ⟨2, ![512, 16]⟩
abbrev S16x512 : Shape := ⟨2, ![16, 512]⟩
abbrev S512 : Shape := ⟨1, ![512]⟩
abbrev S512x1 : Shape := ⟨2, ![512, 1]⟩
abbrev S512x128 : Shape := ⟨2, ![512, 128]⟩

abbrev nBuf : Space → Nat
  | .hbm => 39
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S1x1024x7520, .f32⟩
  | .hbm, ⟨2, _⟩ => ⟨S1x256, .f32⟩
  | .hbm, ⟨3, _⟩ => ⟨S16384x1024, .f32⟩
  | .hbm, ⟨4, _⟩ => ⟨S1024x7520, .f32⟩
  | .hbm, ⟨5, _⟩ => ⟨S7520x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S16x1024, .f32⟩
  | .hbm, ⟨11, _⟩ => ⟨S1024x1024, .f32⟩
  | .hbm, ⟨12, _⟩ => ⟨S256x1024, .f32⟩
  | .hbm, ⟨13, _⟩ => ⟨S1024x1024, .f32⟩
  | .hbm, ⟨14, _⟩ => ⟨S64x1024, .f32⟩
  | .hbm, ⟨15, _⟩ => ⟨S16x1024, .f32⟩
  | .hbm, ⟨16, _⟩ => ⟨S_, .f32⟩
  | .hbm, ⟨17, _⟩ => ⟨S32x1024, .f32⟩
  | .hbm, ⟨18, _⟩ => ⟨S128x1024, .f32⟩
  | .hbm, ⟨19, _⟩ => ⟨S2048x1024, .f32⟩
  | .hbm, ⟨20, _⟩ => ⟨S2048x1024, .bf16⟩
  | .hbm, ⟨21, _⟩ => ⟨S1024x1024, .bf16⟩
  | .hbm, ⟨22, _⟩ => ⟨S2048x1024, .bf16⟩
  | .hbm, ⟨23, _⟩ => ⟨S1024x1024, .bf16⟩
  | .hbm, ⟨24, _⟩ => ⟨S256x1024, .bf16⟩
  | .hbm, ⟨25, _⟩ => ⟨S1024x1024, .bf16⟩
  | .hbm, ⟨26, _⟩ => ⟨S128x1024, .bf16⟩
  | .hbm, ⟨27, _⟩ => ⟨S256, .f32⟩
  | .hbm, ⟨28, _⟩ => ⟨S1x256, .f32⟩
  | .hbm, ⟨29, _⟩ => ⟨S16384x2048, .bf16⟩
  | .hbm, ⟨30, _⟩ => ⟨S16384x1024, .bf16⟩
  | .hbm, ⟨31, _⟩ => ⟨S16384x2048, .bf16⟩
  | .hbm, ⟨32, _⟩ => ⟨S16384x1024, .bf16⟩
  | .hbm, ⟨33, _⟩ => ⟨S16384x256, .bf16⟩
  | .hbm, ⟨34, _⟩ => ⟨S256x16384, .bf16⟩
  | .hbm, ⟨35, _⟩ => ⟨S1024x16384, .bf16⟩
  | .hbm, ⟨36, _⟩ => ⟨S16384x64, .bf16⟩
  | .hbm, ⟨37, _⟩ => ⟨S16384x16, .f32⟩
  | .hbm, ⟨38, _⟩ => ⟨S16x16384, .f32⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1024x1024, .bf16⟩
  | .local _ .vmem, ⟨4, _⟩ => ⟨S2048x1024, .bf16⟩
  | .local _ .vmem, ⟨5, _⟩ => ⟨S1024x1024, .bf16⟩
  | .local _ .vmem, ⟨6, _⟩ => ⟨S256x1024, .bf16⟩
  | .local _ .vmem, ⟨7, _⟩ => ⟨S1024x1024, .bf16⟩
  | .local _ .vmem, ⟨8, _⟩ => ⟨S128x1024, .bf16⟩
  | .local _ .vmem, ⟨9, _⟩ => ⟨S1x256, .f32⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x256, .bf16⟩
  | .local _ .vmem, ⟨19, _⟩ => ⟨S512x256, .bf16⟩
  | .local _ .vmem, ⟨20, _⟩ => ⟨S256x512, .bf16⟩
  | .local _ .vmem, ⟨21, _⟩ => ⟨S256x512, .bf16⟩
  | .local _ .vmem, ⟨22, _⟩ => ⟨S1024x512, .bf16⟩
  | .local _ .vmem, ⟨23, _⟩ => ⟨S1024x512, .bf16⟩
  | .local _ .vmem, ⟨24, _⟩ => ⟨S512x64, .bf16⟩
  | .local _ .vmem, ⟨25, _⟩ => ⟨S512x64, .bf16⟩
  | .local _ .vmem, ⟨26, _⟩ => ⟨S512x16, .f32⟩
  | .local _ .vmem, ⟨27, _⟩ => ⟨S512x16, .f32⟩
  | .local _ .vmem, ⟨28, _⟩ => ⟨S16x512, .f32⟩
  | .local _ .vmem, ⟨29, _⟩ => ⟨S16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25_0 : Ref sig .tc := ⟨.hbm, 29, rfl⟩
abbrev main_v25_1 : Ref sig .tc := ⟨.hbm, 30, rfl⟩
abbrev main_v25_2 : Ref sig .tc := ⟨.hbm, 31, rfl⟩
abbrev main_v25_3 : Ref sig .tc := ⟨.hbm, 32, rfl⟩
abbrev main_v25_4 : Ref sig .tc := ⟨.hbm, 33, rfl⟩
abbrev main_v25_5 : Ref sig .tc := ⟨.hbm, 34, rfl⟩
abbrev main_v25_6 : Ref sig .tc := ⟨.hbm, 35, rfl⟩
abbrev main_v25_7 : Ref sig .tc := ⟨.hbm, 36, rfl⟩
abbrev main_v25_8 : Ref sig .tc := ⟨.hbm, 37, rfl⟩
abbrev main_v25_9 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ProjReferenceIdeal.lean ====
abbrev S4x4096x1024 : Shape := ⟨3, ![4, 4096, 1024]⟩
abbrev S1x1024x7520 : Shape := ⟨3, ![1, 1024, 7520]⟩
abbrev S1x256 : Shape := ⟨2, ![1, 256]⟩
abbrev S16384x1024 : Shape := ⟨2, ![16384, 1024]⟩
abbrev S1024x7520 : Shape := ⟨2, ![1024, 7520]⟩
abbrev S16384x7520 : Shape := ⟨2, ![16384, 7520]⟩
abbrev S16384x2048 : Shape := ⟨2, ![16384, 2048]⟩
abbrev S16384x16 : Shape := ⟨2, ![16384, 16]⟩
abbrev S16384x256 : Shape := ⟨2, ![16384, 256]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S256 : Shape := ⟨1, ![256]⟩
abbrev S256x16384 : Shape := ⟨2, ![256, 16384]⟩
abbrev S1024x16384 : Shape := ⟨2, ![1024, 16384]⟩
abbrev S16x16384 : Shape := ⟨2, ![16, 16384]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x7520, .f32⟩
  | .hbm, ⟨2, _⟩ => ⟨S1x256, .f32⟩
  | .hbm, ⟨3, _⟩ => ⟨S16384x1024, .f32⟩
  | .hbm, ⟨4, _⟩ => ⟨S1024x7520, .f32⟩
  | .hbm, ⟨5, _⟩ => ⟨S16384x7520, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x16, .f32⟩
  | .hbm, ⟨11, _⟩ => ⟨S16384x1024, .f32⟩
  | .hbm, ⟨12, _⟩ => ⟨S16384x256, .f32⟩
  | .hbm, ⟨13, _⟩ => ⟨S16384x1024, .f32⟩
  | .hbm, ⟨14, _⟩ => ⟨S16384x64, .f32⟩
  | .hbm, ⟨15, _⟩ => ⟨S16384x16, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x2048, .f32⟩
  | .hbm, ⟨33, _⟩ => ⟨S16384x256, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x256, .f32⟩
  | .hbm, ⟨45, _⟩ => ⟨S16384x256, .f32⟩
  | .hbm, ⟨46, _⟩ => ⟨S256, .f32⟩
  | .hbm, ⟨47, _⟩ => ⟨S1x256, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x16, .f32⟩
  | .hbm, ⟨52, _⟩ => ⟨S16384x16, .f32⟩
  | .hbm, ⟨53, _⟩ => ⟨S16384x2048, .bf16⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .bf16⟩
  | .hbm, ⟨64, _⟩ => ⟨S16384x2048, .bf16⟩
  | .hbm, ⟨65, _⟩ => ⟨S16384x1024, .bf16⟩
  | .hbm, ⟨66, _⟩ => ⟨S16384x256, .bf16⟩
  | .hbm, ⟨67, _⟩ => ⟨S256x16384, .f32⟩
  | .hbm, ⟨68, _⟩ => ⟨S256x16384, .bf16⟩
  | .hbm, ⟨69, _⟩ => ⟨S1024x16384, .f32⟩
  | .hbm, ⟨70, _⟩ => ⟨S1024x16384, .bf16⟩
  | .hbm, ⟨71, _⟩ => ⟨S16384x64, .bf16⟩
  | .hbm, ⟨72, _⟩ => ⟨S16x16384, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== MergeKernel.lean ====
abbrev S4x4096x1024 : Shape := ⟨3, ![4, 4096, 1024]⟩
abbrev S4x4096x2048 : Shape := ⟨3, ![4, 4096, 2048]⟩
abbrev S1x1024x1024 : Shape := ⟨3, ![1, 1024, 1024]⟩
abbrev S1x1024 : Shape := ⟨2, ![1, 1024]⟩
abbrev S16384x1024 : Shape := ⟨2, ![16384, 1024]⟩
abbrev S16384x2048 : Shape := ⟨2, ![16384, 2048]⟩
abbrev S1024x1024 : Shape := ⟨2, ![1024, 1024]⟩
abbrev S1024 : Shape := ⟨1, ![1024]⟩
abbrev S1024x2048 : Shape := ⟨2, ![1024, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 27
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x2048, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .hbm, ⟨14, _⟩ => ⟨S16384x2048, .f32⟩
  | .hbm, ⟨15, _⟩ => ⟨S16384x2048, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S4x4096x1024 : Shape := ⟨3, ![4, 4096, 1024]⟩
abbrev S4x4096x2048 : Shape := ⟨3, ![4, 4096, 2048]⟩
abbrev S1x1024x1024 : Shape := ⟨3, ![1, 1024, 1024]⟩
abbrev S1x1024 : Shape := ⟨2, ![1, 1024]⟩
abbrev S16384x1024 : Shape := ⟨2, ![16384, 1024]⟩
abbrev S16384x2048 : Shape := ⟨2, ![16384, 2048]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x2048, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x2048, .f32⟩
  | .hbm, ⟨13, _⟩ => ⟨S16384x1024, .f32⟩
  | .hbm, ⟨14, _⟩ => ⟨S16384x1024, .f32⟩
  | .hbm, ⟨15, _⟩ => ⟨S1024x1024, .f32⟩
  | .hbm, ⟨16, _⟩ => ⟨S16384x1024, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S1024x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S1024, .f32⟩
  | .hbm, ⟨56, _⟩ => ⟨S1x1024, .f32⟩
  | .hbm, ⟨57, _⟩ => ⟨S16384x1024, .f32⟩
  | .hbm, ⟨58, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== MemKernel.lean ====
abbrev S4x256x1024 : Shape := ⟨3, ![4, 256, 1024]⟩
abbrev S1x1024x2048 : Shape := ⟨3, ![1, 1024, 2048]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩

abbrev nBuf : Space → Nat
  | .hbm => 6
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1x1024x2048, .f32⟩
  | .hbm, ⟨2, _⟩ => ⟨S1024x1024, .f32⟩
  | .hbm, ⟨3, _⟩ => ⟨S1024x2048, .f32⟩
  | .hbm, ⟨4, _⟩ => ⟨S1024x2048, .bf16⟩
  | .hbm, ⟨5, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S256x2048, .bf16⟩
  | .local _ .vmem, ⟨4, _⟩ => ⟨S256x2048, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemReferenceIdeal.lean ====
abbrev S4x256x1024 : Shape := ⟨3, ![4, 256, 1024]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024x2048, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XattnKernel.lean ====
abbrev S4x4096x1024 : Shape := ⟨3, ![4, 4096, 1024]⟩
abbrev S4x256x2048 : Shape := ⟨3, ![4, 256, 2048]⟩
abbrev S1x1024x1024 : Shape := ⟨3, ![1, 1024, 1024]⟩
abbrev S1x1024 : Shape := ⟨2, ![1, 1024]⟩
abbrev S16384x1024 : Shape := ⟨2, ![16384, 1024]⟩
abbrev S1024x2048 : Shape := ⟨2, ![1024, 2048]⟩
abbrev S1024x1024 : Shape := ⟨2, ![1024, 1024]⟩
abbrev S1024 : Shape := ⟨1, ![1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 18
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x256x2048, .f32⟩
  | .hbm, ⟨2, _⟩ => ⟨S1x1024x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S1024x2048, .f32⟩
  | .hbm, ⟨8, _⟩ => ⟨S1024x2048, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== XattnReferenceIdeal.lean ====
abbrev S4x4096x1024 : Shape := ⟨3, ![4, 4096, 1024]⟩
abbrev S4x256x2048 : Shape := ⟨3, ![4, 256, 2048]⟩
abbrev S1x1024x1024 : Shape := ⟨3, ![1, 1024, 1024]⟩
abbrev S1x1024 : Shape := ⟨2, ![1, 1024]⟩
abbrev S1024x1024 : Shape := ⟨2, ![1024, 1024]⟩
abbrev S4x4096x4x256 : Shape := ⟨4, ![4, 4096, 4, 256]⟩
abbrev S4x256x1024 : Shape := ⟨3, ![4, 256, 1024]⟩
abbrev S4x256x4x256 : Shape := ⟨4, ![4, 256, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S16384x1024 : Shape := ⟨2, ![16384, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x2048, .f32⟩
  | .hbm, ⟨2, _⟩ => ⟨S1x1024x1024, .f32⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S4x4096x1024, .f32⟩
  | .hbm, ⟨8, _⟩ => ⟨S4x4096x4x256, .f32⟩
  | .hbm, ⟨9, _⟩ => ⟨S4x256x1024, .f32⟩
  | .hbm, ⟨10, _⟩ => ⟨S4x256x1024, .f32⟩
  | .hbm, ⟨11, _⟩ => ⟨S4x256x4x256, .f32⟩
  | .hbm, ⟨12, _⟩ => ⟨S4x256x4x256, .f32⟩
  | .hbm, ⟨13, _⟩ => ⟨S4x4x4096x256, .f32⟩
  | .hbm, ⟨14, _⟩ => ⟨S_, .f32⟩
  | .hbm, ⟨15, _⟩ => ⟨S4x4x4096x256, .f32⟩
  | .hbm, ⟨16, _⟩ => ⟨S4x4x4096x256, .f32⟩
  | .hbm, ⟨17, _⟩ => ⟨S_, .f32⟩
  | .hbm, ⟨18, _⟩ => ⟨S4x4x4096, .f32⟩
  | .hbm, ⟨19, _⟩ => ⟨S_, .f32⟩
  | .hbm, ⟨20, _⟩ => ⟨S4x4x4096, .f32⟩
  | .hbm, ⟨21, _⟩ => ⟨S4x4x4096, .f32⟩
  | .hbm, ⟨22, _⟩ => ⟨S4x4x4096x1, .f32⟩
  | .hbm, ⟨23, _⟩ => ⟨S4x4x4096x256, .f32⟩
  | .hbm, ⟨24, _⟩ => ⟨S4x4x4096x256, .f32⟩
  | .hbm, ⟨25, _⟩ => ⟨S4x4x4096x256, .f32⟩
  | .hbm, ⟨26, _⟩ => ⟨S_, .f32⟩
  | .hbm, ⟨27, _⟩ => ⟨S4x4x4096, .f32⟩
  | .hbm, ⟨28, _⟩ => ⟨S4x4x4096x1, .f32⟩
  | .hbm, ⟨29, _⟩ => ⟨S4x4x4096x256, .f32⟩
  | .hbm, ⟨30, _⟩ => ⟨S4x4x4096x256, .f32⟩
  | .hbm, ⟨31, _⟩ => ⟨S4x4x256x4096, .f32⟩
  | .hbm, ⟨32, _⟩ => ⟨S4x4096x4x256, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S1024x1024, .f32⟩
  | .hbm, ⟨38, _⟩ => ⟨S4x4096x1024, .f32⟩
  | .hbm, ⟨39, _⟩ => ⟨S4x4096x1024, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x1024, .f32⟩
  | .hbm, ⟨62, _⟩ => ⟨S4x4096x1024, .f32⟩
  | .hbm, ⟨63, _⟩ => ⟨S1024, .f32⟩
  | .hbm, ⟨64, _⟩ => ⟨S1x1x1024, .f32⟩
  | .hbm, ⟨65, _⟩ => ⟨S4x4096x1024, .f32⟩
  | .hbm, ⟨66, _⟩ => ⟨S4x4096x1024, .f32⟩
  | .hbm, ⟨67, _⟩ => ⟨S1024, .f32⟩
  | .hbm, ⟨68, _⟩ => ⟨S1x1x1024, .f32⟩
  | .hbm, ⟨69, _⟩ => ⟨S4x4096x1024, .f32⟩
  | .hbm, ⟨70, _⟩ => ⟨S4x4096x1024, .f32⟩
  | .hbm, ⟨71, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== SsdKernel.lean ====
abbrev S4x4096x1024 : Shape := ⟨3, ![4, 4096, 1024]⟩
abbrev S4x4096x2048 : Shape := ⟨3, ![4, 4096, 2048]⟩
abbrev S4x4096x16 : Shape := ⟨3, ![4, 4096, 16]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S16x16 : Shape := ⟨2, ![16, 16]⟩
abbrev S_ : Shape := ⟨0, ![]⟩
abbrev S16x16x64 : Shape := ⟨3, ![16, 16, 64]⟩
abbrev S16x1024 : Shape := ⟨2, ![16, 1024]⟩
abbrev S16384x2048 : Shape := ⟨2, ![16384, 2048]⟩
abbrev S16384x1024 : Shape := ⟨2, ![16384, 1024]⟩
abbrev S16384x16 : Shape := ⟨2, ![16384, 16]⟩
abbrev S4x2048 : Shape := ⟨2, ![4, 2048]⟩
abbrev S2048 : Shape := ⟨1, ![2048]⟩
abbrev S16 : Shape := ⟨1, ![16]⟩
abbrev S16x64 : Shape := ⟨2, ![16, 64]⟩
abbrev S1024 : Shape := ⟨1, ![1024]⟩
abbrev S256x2048 : Shape := ⟨2, ![256, 2048]⟩
abbrev S256x1024 : Shape := ⟨2, ![256, 1024]⟩
abbrev S256x16 : Shape := ⟨2, ![256, 16]⟩
abbrev S128x1024 : Shape := ⟨2, ![128, 1024]⟩
abbrev S272x2048 : Shape := ⟨2, ![272, 2048]⟩
abbrev S16x2048 : Shape := ⟨2, ![16, 2048]⟩
abbrev S128x144 : Shape := ⟨2, ![128, 144]⟩
abbrev S128x128 : Shape := ⟨2, ![128, 128]⟩
abbrev S144x2048 : Shape := ⟨2, ![144, 2048]⟩
abbrev S128x2048 : Shape := ⟨2, ![128, 2048]⟩
abbrev S128x16 : Shape := ⟨2, ![128, 16]⟩
abbrev S16x128 : Shape := ⟨2, ![16, 128]⟩
abbrev S128x256 : Shape := ⟨2, ![128, 256]⟩
abbrev S128x1 : Shape := ⟨2, ![128, 1]⟩
abbrev S1x128 : Shape := ⟨2, ![1, 128]⟩
abbrev S128x64 : Shape := ⟨2, ![128, 64]⟩
abbrev S128 : Shape := ⟨1, ![128]⟩

abbrev nBuf : Space → Nat
  | .hbm => 37
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2048, .f32⟩
  | .hbm, ⟨2, _⟩ => ⟨S4x4096x16, .f32⟩
  | .hbm, ⟨3, _⟩ => ⟨S1x4x2048, .f32⟩
  | .hbm, ⟨4, _⟩ => ⟨S1x2048, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x1024, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .bf16⟩
  | .hbm, ⟨16, _⟩ => ⟨S16x16x64, .bf16⟩
  | .hbm, ⟨17, _⟩ => ⟨S16x1024, .bf16⟩
  | .hbm, ⟨18, _⟩ => ⟨S16384x2048, .f32⟩
  | .hbm, ⟨19, _⟩ => ⟨S16384x2048, .bf16⟩
  | .hbm, ⟨20, _⟩ => ⟨S16384x1024, .f32⟩
  | .hbm, ⟨21, _⟩ => ⟨S16384x1024, .bf16⟩
  | .hbm, ⟨22, _⟩ => ⟨S16384x16, .f32⟩
  | .hbm, ⟨23, _⟩ => ⟨S4x2048, .f32⟩
  | .hbm, ⟨24, _⟩ => ⟨S2048, .f32⟩
  | .hbm, ⟨25, _⟩ => ⟨S1x2048, .f32⟩
  | .hbm, ⟨26, _⟩ => ⟨S16, .f32⟩
  | .hbm, ⟨27, _⟩ => ⟨S1x16, .f32⟩
  | .hbm, ⟨28, _⟩ => ⟨S16, .f32⟩
  | .hbm, ⟨29, _⟩ => ⟨S1x16, .f32⟩
  | .hbm, ⟨30, _⟩ => ⟨S16, .f32⟩
  | .hbm, ⟨31, _⟩ => ⟨S16x64, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S16384x1024, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S256x16, .f32⟩
  | .local _ .vmem, ⟨5, _⟩ => ⟨S256x16, .f32⟩
  | .local _ .vmem, ⟨6, _⟩ => ⟨S4x2048, .f32⟩
  | .local _ .vmem, ⟨7, _⟩ => ⟨S1x2048, .f32⟩
  | .local _ .vmem, ⟨8, _⟩ => ⟨S1x16, .f32⟩
  | .local _ .vmem, ⟨9, _⟩ => ⟨S1x16, .f32⟩
  | .local _ .vmem, ⟨10, _⟩ => ⟨S1x1024, .f32⟩
  | .local _ .vmem, ⟨11, _⟩ => ⟨S1x1024, .f32⟩
  | .local _ .vmem, ⟨12, _⟩ => ⟨S16x1024, .bf16⟩
  | .local _ .vmem, ⟨13, _⟩ => ⟨S256x1024, .bf16⟩
  | .local _ .vmem, ⟨14, _⟩ => ⟨S256x1024, .bf16⟩
  | .local _ .vmem, ⟨15, _⟩ => ⟨S128x1024, .f32⟩
  | .local _ .vmem, ⟨16, _⟩ => ⟨S272x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SsdKernelIdeal.lean ====
variable {F : FTy → Type} [FloatOps F] [Named F]
def κ : String → Option EReal := fun
  | "mask" => some ⊥
  | _ => none
-- ==== SsdReferenceIdeal.lean ====
abbrev S4x4096x1024 : Shape := ⟨3, ![4, 4096, 1024]⟩
abbrev S4x4096x2048 : Shape := ⟨3, ![4, 4096, 2048]⟩
abbrev S4x4096x16 : Shape := ⟨3, ![4, 4096, 16]⟩
abbrev S1x4x2048 : Shape := ⟨3, ![1, 4, 2048]⟩
abbrev S1x2048 : Shape := ⟨2, ![1, 2048]⟩
abbrev S1x16 : Shape := ⟨2, ![1, 16]⟩
abbrev S1x1024 : Shape := ⟨2, ![1, 1024]⟩
abbrev S_ : Shape := ⟨0, ![]⟩
abbrev S4x4099x2048 : Shape := ⟨3, ![4, 4099, 2048]⟩
abbrev S1x1x2048 : Shape := ⟨3, ![1, 1, 2048]⟩
abbrev S2048 : Shape := ⟨1, ![2048]⟩
abbrev S4x4096x512 : Shape := ⟨3, ![4, 4096, 512]⟩
abbrev S16 : Shape := ⟨1, ![16]⟩
abbrev S1x1x16 : Shape := ⟨3, ![1, 1, 16]⟩
abbrev S4x32x128x4x4x64 : Shape := ⟨6, ![4, 32, 128, 4, 4, 64]⟩
abbrev S4x32x128x4x4 : Shape := ⟨5, ![4, 32, 128, 4, 4]⟩
abbrev S4x32x128x4x128 : Shape := ⟨5, ![4, 32, 128, 4, 128]⟩
abbrev S4x4 : Shape := ⟨2, ![4, 4]⟩
abbrev S1x1x1x4x4 : Shape := ⟨5, ![1, 1, 1, 4, 4]⟩
abbrev S4x4x4x32x128 : Shape := ⟨5, ![4, 4, 4, 32, 128]⟩
abbrev S4x32x128x4x4x1 : Shape := ⟨6, ![4, 32, 128, 4, 4, 1]⟩
abbrev S4x4x4x32x128x1 : Shape := ⟨6, ![4, 4, 4, 32, 128, 1]⟩
abbrev S4x4x4x32x1x128 : Shape := ⟨6, ![4, 4, 4, 32, 1, 128]⟩
abbrev S4x4x4x32x128x128 : Shape := ⟨6, ![4, 4, 4, 32, 128, 128]⟩
abbrev S128x128 : Shape := ⟨2, ![128, 128]⟩
abbrev S4x32x4x128x128 : Shape := ⟨5, ![4, 32, 4, 128, 128]⟩
abbrev S4x4x32x128x128 : Shape := ⟨5, ![4, 4, 32, 128, 128]⟩
abbrev S4x4x1x32x128x128 : Shape := ⟨6, ![4, 4, 1, 32, 128, 128]⟩
abbrev S4x32x4x4x64x128 : Shape := ⟨6, ![4, 32, 4, 4, 64, 128]⟩
abbrev S4x4x4x32x1 : Shape := ⟨5, ![4, 4, 4, 32, 1]⟩
abbrev S4x4x4x32 : Shape := ⟨4, ![4, 4, 4, 32]⟩
abbrev S4x4x4x64x128 : Shape := ⟨5, ![4, 4, 4, 64, 128]⟩
abbrev S32x4x128x1024 : Shape := ⟨4, ![32, 4, 128, 1024]⟩
abbrev S32x4x4x4x64x128 : Shape := ⟨6, ![32, 4, 4, 4, 64, 128]⟩
abbrev S32x4x4x4 : Shape := ⟨4, ![32, 4, 4, 4]⟩
abbrev S32x4x128x4x128 : Shape := ⟨5, ![32, 4, 128, 4, 128]⟩
abbrev S32x4x128x4x4 : Shape := ⟨5, ![32, 4, 128, 4, 4]⟩
abbrev S32x4x128x4x4x64 : Shape := ⟨6, ![32, 4, 128, 4, 4, 64]⟩
abbrev S32 : Shape := ⟨1, ![32]⟩
abbrev S1x4x4x4x64x128 : Shape := ⟨6, ![1, 4, 4, 4, 64, 128]⟩
abbrev S1x4x4x4 : Shape := ⟨4, ![1, 4, 4, 4]⟩
abbrev S4x4x4 : Shape := ⟨3, ![4, 4, 4]⟩
abbrev S1x4x128x4x128 : Shape := ⟨5, ![1, 4, 128, 4, 128]⟩
abbrev S4x128x4x128 : Shape := ⟨4, ![4, 128, 4, 128]⟩
abbrev S1x4x128x4x4 : Shape := ⟨5, ![1, 4, 128, 4, 4]⟩
abbrev S4x128x4x4 : Shape := ⟨4, ![4, 128, 4, 4]⟩
abbrev S1x4x128x4x4x64 : Shape := ⟨6, ![1, 4, 128, 4, 4, 64]⟩
abbrev S4x128x4x4x64 : Shape := ⟨5, ![4, 128, 4, 4, 64]⟩
abbrev S1 : Shape := ⟨1, ![1]⟩
abbrev S4x128x4x4x1 : Shape := ⟨5, ![4, 128, 4, 4, 1]⟩
abbrev S4x4x1 : Shape := ⟨3, ![4, 4, 1]⟩
abbrev S1x1x4x4x1 : Shape := ⟨5, ![1, 1, 4, 4, 1]⟩
abbrev S4x128x4x256 : Shape := ⟨4, ![4, 128, 4, 256]⟩
abbrev S4x128x4 : Shape := ⟨3, ![4, 128, 4]⟩
abbrev S4x128x4x1 : Shape := ⟨4, ![4, 128, 4, 1]⟩
abbrev S4x128x1024 : Shape := ⟨3, ![4, 128, 1024]⟩
abbrev S1024 : Shape := ⟨1, ![1024]⟩
abbrev S1x1x1024 : Shape := ⟨3, ![1, 1, 1024]⟩
abbrev S4x4x4x1x1 : Shape := ⟨5, ![4, 4, 4, 1, 1]⟩
abbrev S32x1x1x1 : Shape := ⟨4, ![32, 1, 1, 1]⟩
abbrev S1x4x128x1024 : Shape := ⟨4, ![1, 4, 128, 1024]⟩
abbrev S4x32x128x1024 : Shape := ⟨4, ![4, 32, 128, 1024]⟩
abbrev S16384x1024 : Shape := ⟨2, ![16384, 1024]⟩

abbrev nBuf : Space → Nat
  | .hbm => 262
  | .vmem => 0
  | .smem => 0
  | _ => 0

abbrev hbmTy0_0 (i : Nat) : BufTy := match i % 128 with
  | 0 => ⟨S4x4096x1024, .f32⟩
  | 1 => ⟨S4x4096x2048, .f32⟩
  | 2 => ⟨S4x4096x16, .f32⟩
  | 3 => ⟨S1x4x2048, .f32⟩
  | 4 => ⟨S1x2048, .f32⟩
  | 5 => ⟨S1x16, .f32⟩
  | 6 => ⟨S1x16, .f32⟩
  | 7 => ⟨S1x16, .f32⟩
  | 8 => ⟨S1x1024, .f32⟩
  | 9 => ⟨S_, .i32⟩
  | 10 => ⟨S_, .f32⟩
  | 11 => ⟨S4x4099x2048, .f32⟩
  | 12 => ⟨S1x1x2048, .f32⟩
  | 13 => ⟨S2048, .f32⟩
  | 14 => ⟨S4x4096x2048, .f32⟩
  | 15 => ⟨S1x1x2048, .f32⟩
  | 16 => ⟨S4x4096x2048, .f32⟩
  | 17 => ⟨S4x4096x2048, .f32⟩
  | 18 => ⟨S_, .f32⟩
  | 19 => ⟨S4x4096x2048, .f32⟩
  | 20 => ⟨S4x4096x2048, .f32⟩
  | 21 => ⟨S1x1x2048, .f32⟩
  | 22 => ⟨S2048, .f32⟩
  | 23 => ⟨S4x4096x2048, .f32⟩
  | 24 => ⟨S1x1x2048, .f32⟩
  | 25 => ⟨S4x4096x2048, .f32⟩
  | 26 => ⟨S4x4096x2048, .f32⟩
  | 27 => ⟨S4x4096x2048, .f32⟩
  | 28 => ⟨S1x1x2048, .f32⟩
  | 29 => ⟨S2048, .f32⟩
  | 30 => ⟨S4x4096x2048, .f32⟩
  | 31 => ⟨S1x1x2048, .f32⟩
  | 32 => ⟨S4x4096x2048, .f32⟩
  | 33 => ⟨S4x4096x2048, .f32⟩
  | 34 => ⟨S4x4096x2048, .f32⟩
  | 35 => ⟨S1x1x2048, .f32⟩
  | 36 => ⟨S2048, .f32⟩
  | 37 => ⟨S4x4096x2048, .f32⟩
  | 38 => ⟨S1x1x2048, .f32⟩
  | 39 => ⟨S4x4096x2048, .f32⟩
  | 40 => ⟨S4x4096x2048, .f32⟩
  | 41 => ⟨S4x4096x2048, .f32⟩
  | 42 => ⟨S2048, .f32⟩
  | 43 => ⟨S1x1x2048, .f32⟩
  | 44 => ⟨S4x4096x2048, .f32⟩
  | 45 => ⟨S4x4096x2048, .f32⟩
  | 46 => ⟨S4x4096x2048, .f32⟩
  | 47 => ⟨S4x4096x2048, .f32⟩
  | 48 => ⟨S_, .f32⟩
  | 49 => ⟨S4x4096x2048, .f32⟩
  | 50 => ⟨S4x4096x2048, .f32⟩
  | 51 => ⟨S_, .f32⟩
  | 52 => ⟨S4x4096x2048, .f32⟩
  | 53 => ⟨S4x4096x2048, .f32⟩
  | 54 => ⟨S4x4096x2048, .f32⟩
  | 55 => ⟨S4x4096x1024, .f32⟩
  | 56 => ⟨S4x4096x512, .f32⟩
  | 57 => ⟨S4x4096x512, .f32⟩
  | 58 => ⟨S16, .f32⟩
  | 59 => ⟨S1x1x16, .f32⟩
  | 60 => ⟨S4x4096x16, .f32⟩
  | 61 => ⟨S4x4096x16, .f32⟩
  | 62 => ⟨S_, .f32⟩
  | 63 => ⟨S4x4096x16, .f32⟩
  | 64 => ⟨S4x4096x16, .f32⟩
  | 65 => ⟨S4x4096x16, .f32⟩
  | 66 => ⟨S4x4096x16, .f32⟩
  | 67 => ⟨S4x4096x16, .i1⟩
  | 68 => ⟨S4x4096x16, .f32⟩
  | 69 => ⟨S4x4096x16, .f32⟩
  | 70 => ⟨S4x4096x16, .f32⟩
  | 71 => ⟨S4x4096x16, .f32⟩
  | 72 => ⟨S4x4096x16, .f32⟩
  | 73 => ⟨S4x4096x16, .f32⟩
  | 74 => ⟨S4x4096x16, .f32⟩
  | 75 => ⟨S4x4096x16, .f32⟩
  | 76 => ⟨S16, .f32⟩
  | 77 => ⟨S16, .f32⟩
  | 78 => ⟨S16, .f32⟩
  | 79 => ⟨S4x32x128x4x4x64, .f32⟩
  | 80 => ⟨S4x32x128x4x4, .f32⟩
  | 81 => ⟨S4x32x128x4x128, .f32⟩
  | 82 => ⟨S4x32x128x4x128, .f32⟩
  | 83 => ⟨S4x4, .f32⟩
  | 84 => ⟨S1x1x1x4x4, .f32⟩
  | 85 => ⟨S4x32x128x4x4, .f32⟩
  | 86 => ⟨S4x32x128x4x4, .f32⟩
  | 87 => ⟨S4x4x4x32x128, .f32⟩
  | 88 => ⟨S_, .f32⟩
  | 89 => ⟨S_, .f32⟩
  | 90 => ⟨S4x4x4x32x128, .f32⟩
  | 91 => ⟨S4x32x128x4x4x1, .f32⟩
  | 92 => ⟨S4x32x128x4x4x64, .f32⟩
  | 93 => ⟨S4x32x128x4x4x64, .f32⟩
  | 94 => ⟨S4x4x4x32x128x1, .f32⟩
  | 95 => ⟨S4x4x4x32x1x128, .f32⟩
  | 96 => ⟨S4x4x4x32x128x128, .f32⟩
  | 97 => ⟨S4x4x4x32x128x128, .f32⟩
  | 98 => ⟨S4x4x4x32x128x128, .f32⟩
  | 99 => ⟨S_, .i1⟩
  | 100 => ⟨S128x128, .i1⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .i1⟩
  | 108 => ⟨S128x128, .i1⟩
  | 109 => ⟨S128x128, .i1⟩
  | 110 => ⟨S_, .f32⟩
  | 111 => ⟨S_, .f32⟩
  | 112 => ⟨S4x4x4x32x128x128, .i1⟩
  | 113 => ⟨S4x4x4x32x128x128, .f32⟩
  | 114 => ⟨S4x4x4x32x128x128, .f32⟩
  | 115 => ⟨S4x4x4x32x128x128, .f32⟩
  | 116 => ⟨S4x32x4x128x128, .f32⟩
  | 117 => ⟨S4x4x32x128x128, .f32⟩
  | 118 => ⟨S4x4x1x32x128x128, .f32⟩
  | 119 => ⟨S4x4x4x32x128x128, .f32⟩
  | 120 => ⟨S4x4x4x32x128x128, .f32⟩
  | 121 => ⟨S4x32x4x4x64x128, .f32⟩
  | 122 => ⟨S4x32x128x4x4x64, .f32⟩
  | 123 => ⟨S4x4x4x32x1, .f32⟩
  | 124 => ⟨S4x4x4x32x128, .f32⟩
  | 125 => ⟨S4x4x4x32x128, .f32⟩
  | 126 => ⟨S4x4x4x32x128, .f32⟩
  | 127 => ⟨S4x32x128x4x4, .f32⟩
  | _ => ⟨S4x4096x1024, .f32⟩

abbrev hbmTy0_1 (i : Nat) : BufTy := match i % 128 with
  | 0 => ⟨S4x32x128x4x4x1, .f32⟩
  | 1 => ⟨S4x32x128x4x4x64, .f32⟩
  | 2 => ⟨S4x32x128x4x4x64, .f32⟩
  | 3 => ⟨S4x32x4x4x64x128, .f32⟩
  | 4 => ⟨S4x4x4x32x1, .f32⟩
  | 5 => ⟨S4x4x4x32, .f32⟩
  | 6 => ⟨S4x4x4x32, .f32⟩
  | 7 => ⟨S_, .f32⟩
  | 8 => ⟨S4x4x4x64x128, .f32⟩
  | 9 => ⟨S_, .f32⟩
  | 10 => ⟨S32x4x128x1024, .f32⟩
  | 11 => ⟨S32x4x4x4x64x128, .f32⟩
  | 12 => ⟨S32x4x4x4, .f32⟩
  | 13 => ⟨S32x4x128x4x128, .f32⟩
  | 14 => ⟨S4x4x4x32x128, .f32⟩
  | 15 => ⟨S32x4x128x4x4, .f32⟩
  | 16 => ⟨S32x4x128x4x4x64, .f32⟩
  | 17 => ⟨S32x4x128x4x4x64, .f32⟩
  | 18 => ⟨S4x32x128x4x4x64, .f32⟩
  | 19 => ⟨S32x4x128x4x4x64, .f32⟩
  | 20 => ⟨S32, .i32⟩
  | 21 => ⟨S_, .i32⟩
  | 22 => ⟨S32x4x4x4x64x128, .f32⟩
  | 23 => ⟨S32x4x4x4, .f32⟩
  | 24 => ⟨S32x4x128x4x128, .f32⟩
  | 25 => ⟨S32x4x128x4x4, .f32⟩
  | 26 => ⟨S32x4x128x4x4x64, .f32⟩
  | 27 => ⟨S32x4x128x4x4x64, .f32⟩
  | 28 => ⟨S32x4x128x4x4x64, .f32⟩
  | 29 => ⟨S32, .i32⟩
  | 30 => ⟨S1x16, .f32⟩
  | 31 => ⟨S1x1024, .f32⟩
  | 32 => ⟨S_, .i32⟩
  | 33 => ⟨S4x4x4x64x128, .f32⟩
  | 34 => ⟨S32x4x128x1024, .f32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S1x4x4x4x64x128, .f32⟩
  | 43 => ⟨S4x4x4x64x128, .f32⟩
  | 44 => ⟨S_, .i32⟩
  | 45 => ⟨S_, .i32⟩
  | 46 => ⟨S_, .i32⟩
  | 47 => ⟨S1x4x4x4, .f32⟩
  | 48 => ⟨S4x4x4, .f32⟩
  | 49 => ⟨S_, .i32⟩
  | 50 => ⟨S_, .i32⟩
  | 51 => ⟨S_, .i32⟩
  | 52 => ⟨S_, .i32⟩
  | 53 => ⟨S1x4x128x4x128, .f32⟩
  | 54 => ⟨S4x128x4x128, .f32⟩
  | 55 => ⟨S_, .i32⟩
  | 56 => ⟨S_, .i32⟩
  | 57 => ⟨S_, .i32⟩
  | 58 => ⟨S_, .i32⟩
  | 59 => ⟨S1x4x128x4x4, .f32⟩
  | 60 => ⟨S4x128x4x4, .f32⟩
  | 61 => ⟨S_, .i32⟩
  | 62 => ⟨S_, .i32⟩
  | 63 => ⟨S_, .i32⟩
  | 64 => ⟨S_, .i32⟩
  | 65 => ⟨S_, .i32⟩
  | 66 => ⟨S1x4x128x4x4x64, .f32⟩
  | 67 => ⟨S4x128x4x4x64, .f32⟩
  | 68 => ⟨S_, .i32⟩
  | 69 => ⟨S_, .i32⟩
  | 70 => ⟨S_, .i32⟩
  | 71 => ⟨S_, .i32⟩
  | 72 => ⟨S_, .i32⟩
  | 73 => ⟨S1x4x128x4x4x64, .f32⟩
  | 74 => ⟨S4x128x4x4x64, .f32⟩
  | 75 => ⟨S_, .i32⟩
  | 76 => ⟨S_, .i32⟩
  | 77 => ⟨S_, .i32⟩
  | 78 => ⟨S_, .i32⟩
  | 79 => ⟨S_, .i32⟩
  | 80 => ⟨S1x4x128x4x4x64, .f32⟩
  | 81 => ⟨S4x128x4x4x64, .f32⟩
  | 82 => ⟨S1, .i32⟩
  | 83 => ⟨S_, .i32⟩
  | 84 => ⟨S4x4x4x64x128, .f32⟩
  | 85 => ⟨S4x128x4x4x64, .f32⟩
  | 86 => ⟨S4x128x4x4x1, .f32⟩
  | 87 => ⟨S4x128x4x4x64, .f32⟩
  | 88 => ⟨S4x128x4x4x64, .f32⟩
  | 89 => ⟨S4x128x4x4x64, .f32⟩
  | 90 => ⟨S16, .f32⟩
  | 91 => ⟨S4x4, .f32⟩
  | 92 => ⟨S4x4x1, .f32⟩
  | 93 => ⟨S1x1x4x4x1, .f32⟩
  | 94 => ⟨S4x128x4x4x64, .f32⟩
  | 95 => ⟨S4x128x4x4x64, .f32⟩
  | 96 => ⟨S4x128x4x4x64, .f32⟩
  | 97 => ⟨S4x128x4x4x64, .f32⟩
  | 98 => ⟨S4x128x4x256, .f32⟩
  | 99 => ⟨S4x128x4x256, .f32⟩
  | 100 => ⟨S_, .f32⟩
  | 101 => ⟨S4x128x4, .f32⟩
  | 102 => ⟨S4x128x4x1, .f32⟩
  | 103 => ⟨S_, .f32⟩
  | 104 => ⟨S4x128x4x1, .f32⟩
  | 105 => ⟨S4x128x4x1, .f32⟩
  | 106 => ⟨S_, .f32⟩
  | 107 => ⟨S4x128x4x1, .f32⟩
  | 108 => ⟨S4x128x4x1, .f32⟩
  | 109 => ⟨S4x128x4x1, .f32⟩
  | 110 => ⟨S4x128x4x256, .f32⟩
  | 111 => ⟨S4x128x4x256, .f32⟩
  | 112 => ⟨S4x128x1024, .f32⟩
  | 113 => ⟨S1024, .f32⟩
  | 114 => ⟨S1x1x1024, .f32⟩
  | 115 => ⟨S4x128x1024, .f32⟩
  | 116 => ⟨S4x128x1024, .f32⟩
  | 117 => ⟨S4x4x4x1x1, .f32⟩
  | 118 => ⟨S4x4x4x64x128, .f32⟩
  | 119 => ⟨S4x4x4x64x128, .f32⟩
  | 120 => ⟨S4x4x4x64x128, .f32⟩
  | 121 => ⟨S32, .i32⟩
  | 122 => ⟨S32, .i32⟩
  | 123 => ⟨S32, .i1⟩
  | 124 => ⟨S32x1x1x1, .i1⟩
  | 125 => ⟨S1x4x128x1024, .f32⟩
  | 126 => ⟨S32x4x128x1024, .i1⟩
  | 127 => ⟨S32x4x128x1024, .f32⟩
  | _ => ⟨S4x4096x1024, .f32⟩

abbrev hbmTy0_2 (i : Nat) : BufTy := match i % 128 with
  | 0 => ⟨S32x4x128x1024, .f32⟩
  | 1 => ⟨S_, .i32⟩
  | 2 => ⟨S_, .i32⟩
  | 3 => ⟨S4x32x128x1024, .f32⟩
  | 4 => ⟨S16384x1024, .f32⟩
  | 5 => ⟨S16384x1024, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call3_call0_cst : Ref sig .tc := ⟨.hbm, 88, rfl⟩
abbrev main_call3_call0_v0 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_0 : Ref sig .tc := ⟨.hbm, 99, rfl⟩
abbrev main_v64 : Ref sig .tc := ⟨.hbm, 100, rfl⟩
abbrev main_call4_v0 : Ref sig .tc := ⟨.hbm, 101, rfl⟩
abbrev main_call4_c : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_c_0 : Ref sig .tc := ⟨.hbm, 107, rfl⟩
abbrev main_call4_v5 : Ref sig .tc := ⟨.hbm, 108, rfl⟩
abbrev main_v65 : Ref sig .tc := ⟨.hbm, 109, rfl⟩
abbrev main_cst_1 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_2 : Ref sig .tc := ⟨.hbm, 135, rfl⟩
abbrev main_v87 : Ref sig .tc := ⟨.hbm, 136, rfl⟩
abbrev main_cst_3 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_4 : Ref sig .tc := ⟨.hbm, 149, rfl⟩
abbrev main_v99_0 : Ref sig .tc := ⟨.hbm, 150, rfl⟩
abbrev main_v99_1 : Ref sig .tc := ⟨.hbm, 151, rfl⟩
abbrev main_v99_2 : Ref sig .tc := ⟨.hbm, 152, rfl⟩
abbrev main_v99_3 : Ref sig .tc := ⟨.hbm, 153, rfl⟩
abbrev main_v99_4 : Ref sig .tc := ⟨.hbm, 154, rfl⟩
abbrev main_v99_5 : Ref sig .tc := ⟨.hbm, 155, rfl⟩
abbrev main_v99_6 : Ref sig .tc := ⟨.hbm, 156, rfl⟩
abbrev main_v99_7 : Ref sig .tc := ⟨.hbm, 157, rfl⟩
abbrev main_v99_8 : Ref sig .tc := ⟨.hbm, 158, rfl⟩
abbrev main_v99_9 : Ref sig .tc := ⟨.hbm, 159, rfl⟩
abbrev main_v99_10 : Ref sig .tc := ⟨.hbm, 160, rfl⟩
abbrev main_v99_11 : Ref sig .tc := ⟨.hbm, 161, rfl⟩
abbrev main_v99_12 : Ref sig .tc := ⟨.hbm, 162, rfl⟩
abbrev main_while0c_c_17 : Ref sig .tc := ⟨.hbm, 163, rfl⟩
abbrev main_while0c_v103 : Ref sig .tc := ⟨.hbm, 164, rfl⟩
abbrev main_while0b_call6_c : Ref sig .tc := ⟨.hbm, 165, rfl⟩
abbrev main_while0b_call6_c_0 : Ref sig .tc := ⟨.hbm, 166, rfl⟩
abbrev main_while0b_call6_c_1 : Ref sig .tc := ⟨.hbm, 167, rfl⟩
abbrev main_while0b_call6_c_2 : Ref sig .tc := ⟨.hbm, 168, rfl⟩
abbrev main_while0b_call6_c_3 : Ref sig .tc := ⟨.hbm, 169, rfl⟩
abbrev main_while0b_call6_v0 : Ref sig .tc := ⟨.hbm, 170, rfl⟩
abbrev main_while0b_v103 : Ref sig .tc := ⟨.hbm, 171, rfl⟩
abbrev main_while0b_call7_c : Ref sig .tc := ⟨.hbm, 172, rfl⟩
abbrev main_while0b_call7_c_0 : Ref sig .tc := ⟨.hbm, 173, rfl⟩
abbrev main_while0b_call7_c_1 : Ref sig .tc := ⟨.hbm, 174, rfl⟩
abbrev main_while0b_call7_v0 : Ref sig .tc := ⟨.hbm, 175, rfl⟩
abbrev main_while0b_v104 : Ref sig .tc := ⟨.hbm, 176, rfl⟩
abbrev main_while0b_call8_c : Ref sig .tc := ⟨.hbm, 177, rfl⟩
abbrev main_while0b_call8_c_0 : Ref sig .tc := ⟨.hbm, 178, rfl⟩
abbrev main_while0b_call8_c_1 : Ref sig .tc := ⟨.hbm, 179, rfl⟩
abbrev main_while0b_call8_c_2 : Ref sig .tc := ⟨.hbm, 180, rfl⟩
abbrev main_while0b_call8_v0 : Ref sig .tc := ⟨.hbm, 181, rfl⟩
abbrev main_while0b_v105 : Ref sig .tc := ⟨.hbm, 182, rfl⟩
abbrev main_while0b_call9_c : Ref sig .tc := ⟨.hbm, 183, rfl⟩
abbrev main_while0b_call9_c_0 : Ref sig .tc := ⟨.hbm, 184, rfl⟩
abbrev main_while0b_call9_c_1 : Ref sig .tc := ⟨.hbm, 185, rfl⟩
abbrev main_while0b_call9_c_2 : Ref sig .tc := ⟨.hbm, 186, rfl⟩
abbrev main_while0b_call9_v0 : Ref sig .tc := ⟨.hbm, 187, rfl⟩
abbrev main_while0b_v106 : Ref sig .tc := ⟨.hbm, 188, rfl⟩
abbrev main_while0b_call10_c : Ref sig .tc := ⟨.hbm, 189, rfl⟩
abbrev main_while0b_call10_c_0 : Ref sig .tc := ⟨.hbm, 190, rfl⟩
abbrev main_while0b_call10_c_1 : Ref sig .tc := ⟨.hbm, 191, rfl⟩
abbrev main_while0b_call10_c_2 : Ref sig .tc := ⟨.hbm, 192, rfl⟩
abbrev main_while0b_call10_c_3 : Ref sig .tc := ⟨.hbm, 193, rfl⟩
abbrev main_while0b_call10_v0 : Ref sig .tc := ⟨.hbm, 194, rfl⟩
abbrev main_while0b_v107 : Ref sig .tc := ⟨.hbm, 195, rfl⟩
abbrev main_while0b_call11_c : Ref sig .tc := ⟨.hbm, 196, rfl⟩
abbrev main_while0b_call11_c_0 : Ref sig .tc := ⟨.hbm, 197, rfl⟩
abbrev main_while0b_call11_c_1 : Ref sig .tc := ⟨.hbm, 198, rfl⟩
abbrev main_while0b_call11_c_2 : Ref sig .tc := ⟨.hbm, 199, rfl⟩
abbrev main_while0b_call11_c_3 : Ref sig .tc := ⟨.hbm, 200, rfl⟩
abbrev main_while0b_call11_v0 : Ref sig .tc := ⟨.hbm, 201, rfl⟩
abbrev main_while0b_v108 : Ref sig .tc := ⟨.hbm, 202, rfl⟩
abbrev main_while0b_call12_c : Ref sig .tc := ⟨.hbm, 203, rfl⟩
abbrev main_while0b_call12_c_0 : Ref sig .tc := ⟨.hbm, 204, rfl⟩
abbrev main_while0b_call12_c_1 : Ref sig .tc := ⟨.hbm, 205, rfl⟩
abbrev main_while0b_call12_c_2 : Ref sig .tc := ⟨.hbm, 206, rfl⟩
abbrev main_while0b_call12_c_3 : Ref sig .tc := ⟨.hbm, 207, rfl⟩
abbrev main_while0b_call12_v0 : Ref sig .tc := ⟨.hbm, 208, rfl⟩
abbrev main_while0b_v109 : Ref sig .tc := ⟨.hbm, 209, rfl⟩
abbrev main_while0b_call13_v0 : Ref sig .tc := ⟨.hbm, 210, rfl⟩
abbrev main_while0b_v110 : Ref sig .tc := ⟨.hbm, 211, rfl⟩
abbrev main_while0b_v111 : Ref sig .tc := ⟨.hbm, 212, rfl⟩
abbrev main_while0b_v112 : Ref sig .tc := ⟨.hbm, 213, rfl⟩
abbrev main_while0b_v113 : Ref sig .tc := ⟨.hbm, 214, rfl⟩
abbrev main_while0b_v114 : Ref sig .tc := ⟨.hbm, 215, rfl⟩
abbrev main_while0b_v115 : Ref sig .tc := ⟨.hbm, 216, rfl⟩
abbrev main_while0b_v116 : Ref sig .tc := ⟨.hbm, 217, rfl⟩
abbrev main_while0b_v117 : Ref sig .tc := ⟨.hbm, 218, rfl⟩
abbrev main_while0b_v118 : Ref sig .tc := ⟨.hbm, 219, rfl⟩
abbrev main_while0b_v119 : Ref sig .tc := ⟨.hbm, 220, rfl⟩
abbrev main_while0b_v120 : Ref sig .tc := ⟨.hbm, 221, rfl⟩
abbrev main_while0b_v121 : Ref sig .tc := ⟨.hbm, 222, rfl⟩
abbrev main_while0b_v122 : Ref sig .tc := ⟨.hbm, 223, rfl⟩
abbrev main_while0b_v123 : Ref sig .tc := ⟨.hbm, 224, rfl⟩
abbrev main_while0b_v124 : Ref sig .tc := ⟨.hbm, 225, rfl⟩
abbrev main_while0b_v125 : Ref sig .tc := ⟨.hbm, 226, rfl⟩
abbrev main_while0b_v126 : Ref sig .tc := ⟨.hbm, 227, rfl⟩
abbrev main_while0b_cst_17 : Ref sig .tc := ⟨.hbm, 228, rfl⟩
abbrev main_while0b_v127 : Ref sig .tc := ⟨.hbm, 229, rfl⟩
abbrev main_while0b_v128 : Ref sig .tc := ⟨.hbm, 230, rfl⟩
abbrev main_while0b_cst_18 : Ref sig .tc := ⟨.hbm, 231, rfl⟩
abbrev main_while0b_v129 : Ref sig .tc := ⟨.hbm, 232, rfl⟩
abbrev main_while0b_v130 : Ref sig .tc := ⟨.hbm, 233, rfl⟩
abbrev main_while0b_cst_19 : Ref sig .tc := ⟨.hbm, 234, rfl⟩
abbrev main_while0b_v131 : Ref sig .tc := ⟨.hbm, 235, rfl⟩
abbrev main_while0b_v132 : Ref sig .tc := ⟨.hbm, 236, rfl⟩
abbrev main_while0b_v133 : Ref sig .tc := ⟨.hbm, 237, rfl⟩
abbrev main_while0b_v134 : Ref sig .tc := ⟨.hbm, 238, rfl⟩
abbrev main_while0b_v135 : Ref sig .tc := ⟨.hbm, 239, rfl⟩
abbrev main_while0b_v136 : Ref sig .tc := ⟨.hbm, 240, rfl⟩
abbrev main_while0b_v137 : Ref sig .tc := ⟨.hbm, 241, rfl⟩
abbrev main_while0b_v138 : Ref sig .tc := ⟨.hbm, 242, rfl⟩
abbrev main_while0b_v139 : Ref sig .tc := ⟨.hbm, 243, rfl⟩
abbrev main_while0b_v140 : Ref sig .tc := ⟨.hbm, 244, rfl⟩
abbrev main_while0b_v141 : Ref sig .tc := ⟨.hbm, 245, rfl⟩
abbrev main_while0b_v142 : Ref sig .tc := ⟨.hbm, 246, rfl⟩
abbrev main_while0b_v143 : Ref sig .tc := ⟨.hbm, 247, rfl⟩
abbrev main_while0b_v144 : Ref sig .tc := ⟨.hbm, 248, rfl⟩
abbrev main_while0b_v145 : Ref sig .tc := ⟨.hbm, 249, rfl⟩
abbrev main_while0b_v146 : Ref sig .tc := ⟨.hbm, 250, rfl⟩
abbrev main_while0b_v147 : Ref sig .tc := ⟨.hbm, 251, rfl⟩
abbrev main_while0b_v148 : Ref sig .tc := ⟨.hbm, 252, rfl⟩
abbrev main_while0b_v149 : Ref sig .tc := ⟨.hbm, 253, rfl⟩
abbrev main_while0b_call14_v0 : Ref sig .tc := ⟨.hbm, 254, rfl⟩
abbrev main_while0b_call14_v1 : Ref sig .tc := ⟨.hbm, 255, rfl⟩
abbrev main_while0b_v150 : Ref sig .tc := ⟨.hbm, 256, rfl⟩
abbrev main_while0b_c_20 : Ref sig .tc := ⟨.hbm, 257, rfl⟩
abbrev main_while0b_v151 : Ref sig .tc := ⟨.hbm, 258, rfl⟩
abbrev main_v100 : Ref sig .tc := ⟨.hbm, 259, rfl⟩
abbrev main_v101 : Ref sig .tc := ⟨.hbm, 260, rfl⟩
abbrev main_v102 : Ref sig .tc := ⟨.hbm, 261, rfl⟩

abbrev nD : Nat := 1
abbrev τ : Topo := Topo.v7x

variable {F : FTy → Type} [FloatOps F]

abbrev main_while0_count : Scf.Loop 32 := ⟨0#32, 32#32, 1#32⟩
-- ==== Proof.Layer.lean ====
/-
  The layer's row functions over the extended reals, that both a kernel and its reference are brought to:
  the layer norm of a row and the SwiGLU feed-forward residual of a row.
-/
module

public import Idealize.ShloMosaic.PureOps.Ideal.Laws
public import Idealize.ShloMosaic.Lib.IdealHost

@[expose] public section

noncomputable section

namespace Cert.Layer

open Idealize.ShloMosaic

/-- The mean of a row of 1024 elements. -/
def mean (v : Fin 1024 → EReal) : EReal :=
  Ideal.div (∑ k, v k) (Ideal.ofBits .f32 0x44800000#32)

/-- Layer norm of the row `v` at column `j`, with scale `g` and offset `b` there. -/
def layerNorm (v : Fin 1024 → EReal) (g b : EReal) (j : Fin 1024) : EReal :=
  (v j - mean v) * Ideal.rsqrt (mean (fun k => (v k - mean v) * (v k - mean v)) + Ideal.ofBits .f32 0x3727C5AC#32) * g + b

/-- The residual a half feed-forward step normalises: `α x + ½ · ((silu (x W_gate) ∘ x W_up) W_out)`, one row of it. -/
def ffnRow (x : Fin 1024 → EReal) (gate up : Fin 1024 → Fin 2816 → EReal) (out : Fin 2816 → Fin 1024 → EReal)
    (j : Fin 1024) : EReal :=
  Ideal.ofBits .f32 1066940400#32 * x j + Ideal.ofBits .f32 1056964608#32 *
    ∑ n, ((∑ k, x k * gate k n) * Ideal.logistic (∑ k, x k * gate k n) * ∑ k, x k * up k n) * out n j

end Cert.Layer

end
-- ==== Proof.Ffn.lean ====
/-
  The half feed-forward step: the kernel's result array and the reference's are both `ffn` of the arguments.
  Over the extended reals a change of float format is the identity, so the kernel's two products with the halves of the
  input projection are the reference's one product read at the two halves of its columns.
-/
module

public import proofs.«01_k».proof.Defs
public import proofs.«01_k».proof.Proof.Layer
public import proofs.«01_k».proof.Proof.Gen.FfnKernelIdeal.Value
public import proofs.«01_k».proof.Proof.Gen.FfnReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Layer

namespace Cert.FfnKernelIdeal.Ffn

open Cert.FfnKernelIdeal Cert.FfnKernelIdeal.Gen

/-- The step's result: row `i` is token `i % 4096` of batch entry `i / 4096`; the gate's weights are the first 2816
    columns of the input projection, the other operand's the last 2816. -/
def ffn (x : FVec Ideal S4x4096x1024 .f32) (w : FVec Ideal S1x1024x5632 .f32) (o : FVec Ideal S1x2816x1024 .f32)
    (g b : FVec Ideal S1x1024 .f32) : FVec Ideal S16384x1024 .f32 := fun i =>
  layerNorm
    (ffnRow (fun k => x (ix3 ⟨(i 0).val / 4096, by have : (i 0).val < 16384 := (i 0).isLt; omega⟩ ⟨(i 0).val % 4096, by omega⟩ k))
      (fun k n => w (ix3 0 k ⟨n.val, by omega⟩)) (fun k n => w (ix3 0 k ⟨2816 + n.val, by omega⟩)) fun n k => o (ix3 0 n k))
    (g (ix2 0 (i 1))) (b (ix2 0 (i 1))) (i 1)

/-- The block the body stores, at row `r` and column `j`: the layer norm of the row's feed-forward residual. -/
theorem block_apply (x : Vec Ideal S512x1024 .f32) (gate up : Vec Ideal S1024x2816 .bf16) (out : Vec Ideal S2816x1024 .bf16)
    (g b : Vec Ideal S1x1024 .f32) (r : Fin 512) (j : Fin 1024) :
    k0_pay1 (k0_pay2 g) (k0_pay3 b) (k0_pay4 x gate up out) (k0_pay5 x gate up out) k0_pay6 (ix2 r j) =
      layerNorm (ffnRow (fun k => x (ix2 r k)) (fun k n => gate (ix2 k n)) (fun k n => up (ix2 k n)) fun n k => out (ix2 n k))
        (g (ix2 0 j)) (b (ix2 0 j)) j := by
  pointwise [k0_pay1, k0_pay2, k0_pay3, k0_pay4, k0_pay5, k0_pay6, layerNorm, mean, ffnRow]

variable (m : (ℓ : Loc nD τ sig) → Buf (Elt Ideal) ℓ)

/-- The blocks of the tokens: point `t` reads and writes rows `512 t` to `512 t + 511`; the weights' one block is the array. -/
theorem idx : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) := by decide +kernel

/-- The result array after the run. -/
theorem final (c : Dev nD) : (dats m 0 c).arrAt 5 cfg0.N =
    ffn (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  frame_out
  idx_vars y
  rw [block_apply]
  unfold ffn
  have hN : t.val < 32 := lt_of_lt_of_eq t.isLt N_0
  have hx : ∀ k : Fin 1024, iblk m c 0 t (ix2 y0 k) = m ((c : Thread nD τ).loc main_arg0)
      (ix3 ⟨(t.val * 512 + y0.val) / 4096, by omega⟩ ⟨(t.val * 512 + y0.val) % 4096, by omega⟩ k) := by
    intro k
    blk_point [iblk, V, idx t]
  have hw : ∀ (k : Fin 1024) (n : Fin 5632), iblk m c 1 t (ix2 k n) = m ((c : Thread nD τ).loc main_arg1) (ix3 0 k n) := by
    intro k n
    blk_point [iblk, V, idx t]
  have ho : ∀ (n : Fin 2816) (k : Fin 1024), iblk m c 2 t (ix2 n k) = m ((c : Thread nD τ).loc main_arg2) (ix3 0 n k) := by
    intro k n
    blk_point [iblk, V, idx t]
  have hg : ∀ (k : Fin 1024), iblk m c 3 t (ix2 0 k) = m ((c : Thread nD τ).loc main_arg3) (ix2 0 k) := by
    intro k
    blk_point [iblk, V, idx t]
  have hb : ∀ (k : Fin 1024), iblk m c 4 t (ix2 0 k) = m ((c : Thread nD τ).loc main_arg4) (ix2 0 k) := by
    intro k
    blk_point [iblk, V, idx t]
  have he : ((View.whole main_v9).slice (win0_5.rect t)).emb (ix2 y0 y1) = ix2 ⟨t.val * 512 + y0.val, by omega⟩ y1 := by
    blk_ext [idx t]
  rw [he]
  have h1 : ∀ (k : Fin 1024) (n : Fin 2816), View.ld (iblk m c 1 t) r0_1 (ix2 k n) = m ((c : Thread nD τ).loc main_arg1) (ix3 0 k ⟨n.val, by omega⟩) := by
    intro k n
    rw [← hw]
    pointwise
  have h2 : ∀ (k : Fin 1024) (n : Fin 2816), View.ld (iblk m c 1 t) r0_2 (ix2 k n) = m ((c : Thread nD τ).loc main_arg1) (ix3 0 k ⟨2816 + n.val, by omega⟩) := by
    intro k n
    rw [← hw]
    pointwise
  simp only [hx, h1, h2, ho, hg, hb, ix2_0, ix2_1]

end Cert.FfnKernelIdeal.Ffn

namespace Cert.FfnReferenceIdeal.Ffn

open Cert.FfnReferenceIdeal Cert.FfnReferenceIdeal.Read

/-- The reference's last value, operation by operation, is the same function of the arguments. -/
theorem value (x : FVec Ideal S4x4096x1024 .f32) (w : FVec Ideal S1x1024x5632 .f32) (o : FVec Ideal S1x2816x1024 .f32)
    (g b : FVec Ideal S1x1024 .f32) : val_main_v39 (F := Ideal) x w o g b = Cert.FfnKernelIdeal.Ffn.ffn x w o g b := by
  funext i
  idx_vars i
  pointwise [Cert.FfnKernelIdeal.Ffn.ffn, layerNorm, mean, ffnRow, Ideal.logistic,
    val_main_call0_cst, val_main_call0_cst_0, val_main_call0_v0, val_main_call0_v1, val_main_call0_v2,
    val_main_call0_v3, val_main_call0_v4, val_main_call0_v5, val_main_cst, val_main_cst_0, val_main_cst_1,
    val_main_cst_2, val_main_cst_3, val_main_cst_4, val_main_cst_5, val_main_v0, val_main_v1, val_main_v2,
    val_main_v3, val_main_v4, val_main_v5, val_main_v6, val_main_v7, val_main_v8, val_main_v9, val_main_v10,
    val_main_v11, val_main_v12, val_main_v13, val_main_v14, val_main_v15, val_main_v16, val_main_v17,
    val_main_v18, val_main_v19, val_main_v20, val_main_v21, val_main_v22, val_main_v23, val_main_v24,
    val_main_v25, val_main_v26, val_main_v27, val_main_v28, val_main_v29, val_main_v30, val_main_v31,
    val_main_v32, val_main_v33, val_main_v34, val_main_v35, val_main_v36, val_main_v37, val_main_v38, val_main_v39]

end Cert.FfnReferenceIdeal.Ffn

namespace Cert.Ffn

/-- Kernel and reference end with the same result array. -/
theorem algebraic : Cert.algebraic_FfnKernelIdeal_FfnReferenceIdeal
    (hFfnKernelIdeal := Cert.FfnKernelIdeal.Gen.facts) (hFfnReferenceIdeal := Cert.FfnReferenceIdeal.Gen.facts) := by
  pair_intro
  · run_from (Cert.FfnKernelIdeal.Value.run_blocks (F := Ideal) m g)
  · run_from (Cert.FfnReferenceIdeal.Value.run (F := Ideal) m' g')
    rw [Cert.FfnReferenceIdeal.Read.val_main_v39_eq, Cert.FfnReferenceIdeal.Ffn.value, Cert.FfnKernelIdeal.Ffn.final]
    simp only [hagree c]

end Cert.Ffn

end
-- ==== Proof.Proj.lean ====
/-
  The combined input projection: each of the kernel's ten result arrays and the reference's are the same function of the
  arguments. The kernel's weights are slices of the transposed projection, put together anew; a slice read at a row is a
  column of the projection, and four of the results have a token per column.
-/
module

public import proofs.«01_k».proof.Defs
public import proofs.«01_k».proof.Proof.Layer
public import proofs.«01_k».proof.Proof.Gen.ProjKernelIdeal.Value
public import proofs.«01_k».proof.Proof.Gen.ProjReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Layer

namespace Cert.ProjKernelIdeal.Proj

open Cert.ProjKernelIdeal Cert.ProjKernelIdeal.Gen

/-- Column `n` of token `t`'s projection; token `t` is row `t % 4096` of batch entry `t / 4096`. -/
def proj (x : FVec Ideal S4x4096x1024 .f32) (w : FVec Ideal S1x1024x7520 .f32) (t : Fin 16384) (n : Fin 7520) : EReal :=
  ∑ k, x (ix3 ⟨t.val / 4096, by omega⟩ ⟨t.val % 4096, by omega⟩ k) * w (ix3 0 k n)

theorem proj_swap (x : FVec Ideal S4x4096x1024 .f32) (w : FVec Ideal S1x1024x7520 .f32) (t : Fin 16384) (n : Fin 7520) :
    proj x w t n = ∑ k, w (ix3 0 k n) * x (ix3 ⟨t.val / 4096, by omega⟩ ⟨t.val % 4096, by omega⟩ k) :=
  Finset.sum_congr rfl fun _ _ => mul_comm _ _

/-- The gate `z σ(z)`. -/
def silu (z : EReal) : EReal := z * Ideal.logistic z

/-- The latent of token `t` at column `j`, over the root of its mean square, times the norm's weight. -/
def rms (x : FVec Ideal S4x4096x1024 .f32) (w : FVec Ideal S1x1024x7520 .f32) (v : FVec Ideal S1x256 .f32)
    (t : Fin 16384) (j : Fin 256) : EReal :=
  proj x w t ⟨6160 + j.val, by omega⟩ *
    Ideal.rsqrt (Ideal.div (∑ k : Fin 256, proj x w t ⟨6160 + k.val, by omega⟩ * proj x w t ⟨6160 + k.val, by omega⟩)
      (Ideal.ofBits .f32 0x43800000#32) + Ideal.ofBits .f32 0x358637BD#32) * v (ix2 0 j)

/-- The result array: the gates of the two mixers. -/
def gates (x : FVec Ideal S4x4096x1024 .f32) (w : FVec Ideal S1x1024x7520 .f32) :
    FVec Ideal S16384x2048 .bf16 := fun i =>
  Ideal.logistic (proj x w (i 0) ⟨(i 1).val, by have : (i 1).val < 2048 := (i 1).isLt; omega⟩)

/-- The result array: the recurrence's own gate. -/
def zgate (x : FVec Ideal S4x4096x1024 .f32) (w : FVec Ideal S1x1024x7520 .f32) :
    FVec Ideal S16384x1024 .bf16 := fun i =>
  silu (proj x w (i 0) ⟨2048 + (i 1).val, by have : (i 1).val < 1024 := (i 1).isLt; omega⟩)

/-- The result array: the recurrence's channels. -/
def xbc (x : FVec Ideal S4x4096x1024 .f32) (w : FVec Ideal S1x1024x7520 .f32) :
    FVec Ideal S16384x2048 .bf16 := fun i =>
  proj x w (i 0) ⟨3072 + (i 1).val, by have : (i 1).val < 2048 := (i 1).isLt; omega⟩

/-- The result array: the queries. -/
def query (x : FVec Ideal S4x4096x1024 .f32) (w : FVec Ideal S1x1024x7520 .f32) :
    FVec Ideal S16384x1024 .bf16 := fun i =>
  proj x w (i 0) ⟨5136 + (i 1).val, by have : (i 1).val < 1024 := (i 1).isLt; omega⟩

/-- The result array: the normalised latent keys. -/
def latent (x : FVec Ideal S4x4096x1024 .f32) (w : FVec Ideal S1x1024x7520 .f32) (v : FVec Ideal S1x256 .f32) :
    FVec Ideal S16384x256 .bf16 := fun i =>
  rms x w v (i 0) (i 1)

/-- The result array: the normalised latent keys, a token a column. -/
def latentT (x : FVec Ideal S4x4096x1024 .f32) (w : FVec Ideal S1x1024x7520 .f32) (v : FVec Ideal S1x256 .f32) :
    FVec Ideal S256x16384 .bf16 := fun i =>
  rms x w v (i 1) (i 0)

/-- The result array: the indexer's queries, a token a column. -/
def idxQuery (x : FVec Ideal S4x4096x1024 .f32) (w : FVec Ideal S1x1024x7520 .f32) :
    FVec Ideal S1024x16384 .bf16 := fun i =>
  proj x w (i 1) ⟨6416 + (i 0).val, by have : (i 0).val < 1024 := (i 0).isLt; omega⟩

/-- The result array: the indexer's keys. -/
def idxKey (x : FVec Ideal S4x4096x1024 .f32) (w : FVec Ideal S1x1024x7520 .f32) :
    FVec Ideal S16384x64 .bf16 := fun i =>
  proj x w (i 0) ⟨7440 + (i 1).val, by have : (i 1).val < 64 := (i 1).isLt; omega⟩

/-- The result array: the recurrence's raw step sizes. -/
def step (x : FVec Ideal S4x4096x1024 .f32) (w : FVec Ideal S1x1024x7520 .f32) :
    FVec Ideal S16384x16 .f32 := fun i =>
  proj x w (i 0) ⟨5120 + (i 1).val, by have : (i 1).val < 16 := (i 1).isLt; omega⟩

/-- The result array: the indexer's head weights, a token a column. -/
def idxWeight (x : FVec Ideal S4x4096x1024 .f32) (w : FVec Ideal S1x1024x7520 .f32) :
    FVec Ideal S16x16384 .f32 := fun i =>
  proj x w (i 1) ⟨7504 + (i 0).val, by have : (i 0).val < 16 := (i 0).isLt; omega⟩ * Ideal.ofBits .f32 0x3E800000#32

variable (m : (ℓ : Loc nD τ sig) → Buf (Elt Ideal) ℓ)

/-- Point `t` reads tokens `512 t` to `512 t + 511`; the weights' one block is the array. -/
theorem idxIn : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) := by decide +kernel

/-- Point `t` writes the same tokens, as rows or as columns. -/
theorem idxOut : ∀ t : Fin cfg0.N, (win0_9.index t 0 = t.val ∧ win0_9.index t 1 = 0)
    ∧ (win0_10.index t 0 = t.val ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0)
    ∧ (win0_14.index t 0 = 0 ∧ win0_14.index t 1 = t.val) ∧ (win0_15.index t 0 = 0 ∧ win0_15.index t 1 = t.val)
    ∧ (win0_16.index t 0 = t.val ∧ win0_16.index t 1 = 0) ∧ (win0_17.index t 0 = t.val ∧ win0_17.index t 1 = 0)
    ∧ (win0_18.index t 0 = 0 ∧ win0_18.index t 1 = t.val) := by decide +kernel

theorem lt_grid (t : Fin cfg0.N) : t.val < 32 := lt_of_lt_of_eq t.isLt N_0

/-- The tokens' block. -/
theorem tok (c : Dev nD) (t : Fin cfg0.N) (r : Fin 512) (k : Fin 1024) : iblk m c 0 t (ix2 r k) =
    m ((c : Thread nD τ).loc main_arg0) (ix3 ⟨(t.val * 512 + r.val) / 4096, by have := lt_grid t; omega⟩
      ⟨(t.val * 512 + r.val) % 4096, by omega⟩ k) := by
  have := lt_grid t
  blk_point [iblk, V, idxIn t]

/-! The weights' blocks: row `n` of a block is a column of the projection. -/

theorem wGates (c : Dev nD) (t : Fin cfg0.N) (n : Fin 2048) (k : Fin 1024) : iblk m c 1 t (ix2 n k) =
    m ((c : Thread nD τ).loc main_arg1) (ix3 0 k ⟨n.val, by omega⟩) := by
  have e : (win0_1.blk t).view.emb (ix2 n k) = ix2 n k := by blk_ext [idxIn t]
  show StableHlo.after hostOps0 (fun b => m (c, b)) (Proc.devRef .tc main_v16) ((win0_1.blk t).view.emb (ix2 n k)) = _
  rw [e]
  simp only [hostOps0]
  after_results_simp
  pointwise []
  have h1 : 1024 ≤ n.val → 1024 + (n.val - 1024) = n.val := fun h => by omega
  split
  · after_results_simp
    pointwise []
  · after_results_simp
    pointwise []
    simp only [h1 (by omega)]

theorem wZ (c : Dev nD) (t : Fin cfg0.N) (n : Fin 1024) (k : Fin 1024) : iblk m c 2 t (ix2 n k) =
    m ((c : Thread nD τ).loc main_arg1) (ix3 0 k ⟨2048 + n.val, by omega⟩) := by
  blk_point [iblk, V, idxIn t]

theorem wXbc (c : Dev nD) (t : Fin cfg0.N) (n : Fin 2048) (k : Fin 1024) : iblk m c 3 t (ix2 n k) =
    m ((c : Thread nD τ).loc main_arg1) (ix3 0 k ⟨3072 + n.val, by omega⟩) := by
  blk_point [iblk, V, idxIn t]

theorem wQuery (c : Dev nD) (t : Fin cfg0.N) (n : Fin 1024) (k : Fin 1024) : iblk m c 4 t (ix2 n k) =
    m ((c : Thread nD τ).loc main_arg1) (ix3 0 k ⟨5136 + n.val, by omega⟩) := by
  blk_point [iblk, V, idxIn t]

theorem wLatent (c : Dev nD) (t : Fin cfg0.N) (n : Fin 256) (k : Fin 1024) : iblk m c 5 t (ix2 n k) =
    m ((c : Thread nD τ).loc main_arg1) (ix3 0 k ⟨6160 + n.val, by omega⟩) := by
  blk_point [iblk, V, idxIn t]

theorem wIdx (c : Dev nD) (t : Fin cfg0.N) (n : Fin 1024) (k : Fin 1024) : iblk m c 6 t (ix2 n k) =
    m ((c : Thread nD τ).loc main_arg1) (ix3 0 k ⟨6416 + n.val, by omega⟩) := by
  blk_point [iblk, V, idxIn t]

theorem wStep (c : Dev nD) (t : Fin cfg0.N) (n : Fin 16) (k : Fin 1024) : iblk m c 7 t (ix2 ⟨n.val, by omega⟩ k) =
    m ((c : Thread nD τ).loc main_arg1) (ix3 0 k ⟨5120 + n.val, by omega⟩) := by
  have e : (win0_7.blk t).view.emb (ix2 ⟨n.val, by omega⟩ k) = ix2 ⟨n.val, by omega⟩ k := by blk_ext [idxIn t]
  show StableHlo.after hostOps0 (fun b => m (c, b)) (Proc.devRef .tc main_v22) ((win0_7.blk t).view.emb (ix2 ⟨n.val, by omega⟩ k)) = _
  rw [e]
  have h : n.val < 16 := n.isLt
  simp only [hostOps0]
  after_results_simp
  pointwise [h]
  after_results_simp
  pointwise []

theorem wKey (c : Dev nD) (t : Fin cfg0.N) (n : Fin 64) (k : Fin 1024) : iblk m c 7 t (ix2 ⟨16 + n.val, by omega⟩ k) =
    m ((c : Thread nD τ).loc main_arg1) (ix3 0 k ⟨7440 + n.val, by omega⟩) := by
  have e : (win0_7.blk t).view.emb (ix2 ⟨16 + n.val, by omega⟩ k) = ix2 ⟨16 + n.val, by omega⟩ k := by blk_ext [idxIn t]
  show StableHlo.after hostOps0 (fun b => m (c, b)) (Proc.devRef .tc main_v22) ((win0_7.blk t).view.emb (ix2 ⟨16 + n.val, by omega⟩ k)) = _
  rw [e]
  have h : n.val < 64 := n.isLt
  simp only [hostOps0]
  after_results_simp
  pointwise [h]
  after_results_simp
  pointwise []

theorem wWeight (c : Dev nD) (t : Fin cfg0.N) (n : Fin 16) (k : Fin 1024) : iblk m c 7 t (ix2 ⟨80 + n.val, by omega⟩ k) =
    m ((c : Thread nD τ).loc main_arg1) (ix3 0 k ⟨7504 + n.val, by omega⟩) := by
  have e : (win0_7.blk t).view.emb (ix2 ⟨80 + n.val, by omega⟩ k) = ix2 ⟨80 + n.val, by omega⟩ k := by blk_ext [idxIn t]
  show StableHlo.after hostOps0 (fun b => m (c, b)) (Proc.devRef .tc main_v22) ((win0_7.blk t).view.emb (ix2 ⟨80 + n.val, by omega⟩ k)) = _
  rw [e]
  have h : n.val < 16 := n.isLt
  simp only [hostOps0]
  after_results_simp
  pointwise [h]
  after_results_simp
  pointwise []
  rw [dif_neg (by omega), dif_neg (by omega), dif_pos (by omega)]
  simp only [show 80 + n.val - 16 - 64 = n.val by omega]

theorem wNorm (c : Dev nD) (t : Fin cfg0.N) (k : Fin 256) : iblk m c 8 t (ix2 0 k) =
    m ((c : Thread nD τ).loc main_arg2) (ix2 0 k) := by
  blk_point [iblk, V, idxIn t]

/-! The result arrays after the run. -/

theorem final_gates (c : Dev nD) : (dats m 0 c).arrAt 9 cfg0.N =
    gates (m ((c : Thread nD τ).loc main_arg0)) (m ((c : Thread nD τ).loc main_arg1)) := by
  refine (dats m 0 c).arrAt_eq_of_covers 9 _ (by decide +kernel) fun t hf y => ?_
  blk_simp
  rw [after0_9]
  frame_out
  idx_vars y
  have hN := lt_grid t
  have he : ((View.whole main_v25_0).slice (win0_9.rect t)).emb (ix2 y0 y1) = ix2 ⟨t.val * 512 + y0.val, by omega⟩ y1 := by
    blk_ext [idxOut t]
  rw [he]
  pointwise [gates, proj, k0_pay2, k0_pay3, tok m c t, wGates m c t]

theorem final_zgate (c : Dev nD) : (dats m 0 c).arrAt 10 cfg0.N =
    zgate (m ((c : Thread nD τ).loc main_arg0)) (m ((c : Thread nD τ).loc main_arg1)) := by
  refine (dats m 0 c).arrAt_eq_of_covers 10 _ (by decide +kernel) fun t hf y => ?_
  blk_simp
  rw [after0_10]
  frame_out
  idx_vars y
  have hN := lt_grid t
  have he : ((View.whole main_v25_1).slice (win0_10.rect t)).emb (ix2 y0 y1) = ix2 ⟨t.val * 512 + y0.val, by omega⟩ y1 := by
    blk_ext [idxOut t]
  rw [he]
  pointwise [zgate, proj, k0_pay2, k0_pay4, silu, tok m c t, wZ m c t]

theorem final_xbc (c : Dev nD) : (dats m 0 c).arrAt 11 cfg0.N =
    xbc (m ((c : Thread nD τ).loc main_arg0)) (m ((c : Thread nD τ).loc main_arg1)) := by
  refine (dats m 0 c).arrAt_eq_of_covers 11 _ (by decide +kernel) fun t hf y => ?_
  blk_simp
  rw [after0_11]
  frame_out
  idx_vars y
  have hN := lt_grid t
  have he : ((View.whole main_v25_2).slice (win0_11.rect t)).emb (ix2 y0 y1) = ix2 ⟨t.val * 512 + y0.val, by omega⟩ y1 := by
    blk_ext [idxOut t]
  rw [he]
  pointwise [xbc, proj, k0_pay2, k0_pay5, tok m c t, wXbc m c t]

theorem final_query (c : Dev nD) : (dats m 0 c).arrAt 12 cfg0.N =
    query (m ((c : Thread nD τ).loc main_arg0)) (m ((c : Thread nD τ).loc main_arg1)) := by
  refine (dats m 0 c).arrAt_eq_of_covers 12 _ (by decide +kernel) fun t hf y => ?_
  blk_simp
  rw [after0_12]
  frame_out
  idx_vars y
  have hN := lt_grid t
  have he : ((View.whole main_v25_3).slice (win0_12.rect t)).emb (ix2 y0 y1) = ix2 ⟨t.val * 512 + y0.val, by omega⟩ y1 := by
    blk_ext [idxOut t]
  rw [he]
  pointwise [query, proj, k0_pay2, k0_pay6, tok m c t, wQuery m c t]

theorem final_latent (c : Dev nD) : (dats m 0 c).arrAt 13 cfg0.N =
    latent (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  frame_out
  idx_vars y
  have hN := lt_grid t
  have he : ((View.whole main_v25_4).slice (win0_13.rect t)).emb (ix2 y0 y1) = ix2 ⟨t.val * 512 + y0.val, by omega⟩ y1 := by
    blk_ext [idxOut t]
  rw [he]
  pointwise [latent, proj, k0_pay2, k0_pay7, k0_pay8, k0_pay9, k0_pay10, k0_pay17, k0_pay18, rms, tok m c t, wLatent m c t, wNorm m c t]

theorem final_latentT (c : Dev nD) : (dats m 0 c).arrAt 14 cfg0.N =
    latentT (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14]
  frame_out
  idx_vars y
  have hN := lt_grid t
  have he : ((View.whole main_v25_5).slice (win0_14.rect t)).emb (ix2 y0 y1) = ix2 y0 ⟨t.val * 512 + y1.val, by omega⟩ := by
    blk_ext [idxOut t]
  rw [he]
  pointwise [latentT, proj, k0_pay2, k0_pay7, k0_pay8, k0_pay9, k0_pay11, k0_pay17, k0_pay18, rms, tok m c t, wLatent m c t, wNorm m c t]

theorem final_idxQuery (c : Dev nD) : (dats m 0 c).arrAt 15 cfg0.N =
    idxQuery (m ((c : Thread nD τ).loc main_arg0)) (m ((c : Thread nD τ).loc main_arg1)) := by
  refine (dats m 0 c).arrAt_eq_of_covers 15 _ (by decide +kernel) fun t hf y => ?_
  blk_simp
  rw [after0_15]
  frame_out
  idx_vars y
  have hN := lt_grid t
  have he : ((View.whole main_v25_6).slice (win0_15.rect t)).emb (ix2 y0 y1) = ix2 y0 ⟨t.val * 512 + y1.val, by omega⟩ := by
    blk_ext [idxOut t]
  rw [he]
  pointwise [idxQuery, proj_swap, k0_pay2, k0_pay12, k0_pay16, tok m c t, wIdx m c t]

theorem final_idxKey (c : Dev nD) : (dats m 0 c).arrAt 16 cfg0.N =
    idxKey (m ((c : Thread nD τ).loc main_arg0)) (m ((c : Thread nD τ).loc main_arg1)) := by
  refine (dats m 0 c).arrAt_eq_of_covers 16 _ (by decide +kernel) fun t hf y => ?_
  blk_simp
  rw [after0_16]
  frame_out
  idx_vars y
  have hN := lt_grid t
  have he : ((View.whole main_v25_7).slice (win0_16.rect t)).emb (ix2 y0 y1) = ix2 ⟨t.val * 512 + y0.val, by omega⟩ y1 := by
    blk_ext [idxOut t]
  rw [he]
  pointwise [idxKey, proj, k0_pay2, k0_pay13, k0_pay16, k0_pay15, tok m c t, wKey m c t]

theorem final_step (c : Dev nD) : (dats m 0 c).arrAt 17 cfg0.N =
    step (m ((c : Thread nD τ).loc main_arg0)) (m ((c : Thread nD τ).loc main_arg1)) := by
  refine (dats m 0 c).arrAt_eq_of_covers 17 _ (by decide +kernel) fun t hf y => ?_
  blk_simp
  rw [after0_17]
  frame_out
  idx_vars y
  have hN := lt_grid t
  have he : ((View.whole main_v25_8).slice (win0_17.rect t)).emb (ix2 y0 y1) = ix2 ⟨t.val * 512 + y0.val, by omega⟩ y1 := by
    blk_ext [idxOut t]
  rw [he]
  pointwise [step, proj, k0_pay2, k0_pay13, k0_pay16, k0_pay14, tok m c t, wStep m c t]

theorem final_idxWeight (c : Dev nD) : (dats m 0 c).arrAt 18 cfg0.N =
    idxWeight (m ((c : Thread nD τ).loc main_arg0)) (m ((c : Thread nD τ).loc main_arg1)) := by
  refine (dats m 0 c).arrAt_eq_of_covers 18 _ (by decide +kernel) fun t hf y => ?_
  blk_simp
  rw [after0_18]
  frame_out
  idx_vars y
  have hN := lt_grid t
  have he : ((View.whole main_v25_9).slice (win0_18.rect t)).emb (ix2 y0 y1) = ix2 y0 ⟨t.val * 512 + y1.val, by omega⟩ := by
    blk_ext [idxOut t]
  rw [he]
  pointwise [idxWeight, proj_swap, k0_pay1, k0_pay2, k0_pay16, tok m c t, wWeight m c t]

end Cert.ProjKernelIdeal.Proj

namespace Cert.ProjReferenceIdeal.Proj

open Cert.ProjReferenceIdeal Cert.ProjReferenceIdeal.Read Cert.ProjKernelIdeal.Proj

/-! The reference's results, operation by operation. -/

theorem value_gates (x : FVec Ideal S4x4096x1024 .f32) (w : FVec Ideal S1x1024x7520 .f32) :
    val_main_v42 (F := Ideal) x w = gates x w := by
  funext i
  idx_vars i
  pointwise [gates, proj, silu, rms, Ideal.logistic,
    val_main_v42, val_main_v25, val_main_v24, val_main_v23, val_main_cst_2, val_main_v22, val_main_v21,
    val_main_cst_1, val_main_v20, val_main_v19, val_main_v4, val_main_v2, val_main_v1, val_main_v0, val_main_v18,
    val_main_v17, val_main_cst_0, val_main_v16, val_main_v15, val_main_cst, val_main_v14, val_main_v13, val_main_v3]
  have e : 1024 ≤ i1.val → 1024 + (i1.val - 1024) = i1.val := fun h => by omega
  split
  · rfl
  · simp only [e (by omega)]

theorem value_zgate (x : FVec Ideal S4x4096x1024 .f32) (w : FVec Ideal S1x1024x7520 .f32) :
    val_main_v44 (F := Ideal) x w = zgate x w := by
  funext i
  idx_vars i
  pointwise [zgate, proj, silu, rms, Ideal.logistic,
    val_main_v44, val_main_v43, val_main_v5, val_main_v2, val_main_v1, val_main_v0, val_main_call0_v5,
    val_main_call0_v4, val_main_call0_cst_0, val_main_call0_v3, val_main_call0_v2, val_main_call0_cst,
    val_main_call0_v1, val_main_call0_v0]

theorem value_xbc (x : FVec Ideal S4x4096x1024 .f32) (w : FVec Ideal S1x1024x7520 .f32) :
    val_main_v45 (F := Ideal) x w = xbc x w := by
  funext i
  idx_vars i
  pointwise [xbc, proj, silu, rms, Ideal.logistic,
    val_main_v45, val_main_v6, val_main_v2, val_main_v1, val_main_v0]

theorem value_query (x : FVec Ideal S4x4096x1024 .f32) (w : FVec Ideal S1x1024x7520 .f32) :
    val_main_v46 (F := Ideal) x w = query x w := by
  funext i
  idx_vars i
  pointwise [query, proj, silu, rms, Ideal.logistic,
    val_main_v46, val_main_v8, val_main_v2, val_main_v1, val_main_v0]

theorem value_latent (x : FVec Ideal S4x4096x1024 .f32) (w : FVec Ideal S1x1024x7520 .f32) (v : FVec Ideal S1x256 .f32) :
    val_main_v47 (F := Ideal) x w v = latent x w v := by
  funext i
  idx_vars i
  pointwise [latent, proj, silu, rms, Ideal.logistic,
    val_main_v47, val_main_v39, val_main_v38, val_main_v37, val_main_v36, val_main_v35, val_main_v9, val_main_v2,
    val_main_v1, val_main_v0, val_main_v34, val_main_v33, val_main_v32, val_main_v31, val_main_cst_5, val_main_v30,
    val_main_v29, val_main_cst_4, val_main_v28, val_main_v27, val_main_v26, val_main_cst_3]

theorem value_latentT (x : FVec Ideal S4x4096x1024 .f32) (w : FVec Ideal S1x1024x7520 .f32) (v : FVec Ideal S1x256 .f32) :
    val_main_v49 (F := Ideal) x w v = latentT x w v := by
  funext i
  idx_vars i
  pointwise [latentT, proj, silu, rms, Ideal.logistic,
    val_main_v49, val_main_v48, val_main_v39, val_main_v38, val_main_v37, val_main_v36, val_main_v35, val_main_v9,
    val_main_v2, val_main_v1, val_main_v0, val_main_v34, val_main_v33, val_main_v32, val_main_v31, val_main_cst_5,
    val_main_v30, val_main_v29, val_main_cst_4, val_main_v28, val_main_v27, val_main_v26, val_main_cst_3]

theorem value_idxQuery (x : FVec Ideal S4x4096x1024 .f32) (w : FVec Ideal S1x1024x7520 .f32) :
    val_main_v51 (F := Ideal) x w = idxQuery x w := by
  funext i
  idx_vars i
  pointwise [idxQuery, proj, silu, rms, Ideal.logistic,
    val_main_v51, val_main_v50, val_main_v10, val_main_v2, val_main_v1, val_main_v0]

theorem value_idxKey (x : FVec Ideal S4x4096x1024 .f32) (w : FVec Ideal S1x1024x7520 .f32) :
    val_main_v52 (F := Ideal) x w = idxKey x w := by
  funext i
  idx_vars i
  pointwise [idxKey, proj, silu, rms, Ideal.logistic,
    val_main_v52, val_main_v11, val_main_v2, val_main_v1, val_main_v0]

theorem value_step (x : FVec Ideal S4x4096x1024 .f32) (w : FVec Ideal S1x1024x7520 .f32) :
    val_main_v7 (F := Ideal) x w = step x w := by
  funext i
  idx_vars i
  pointwise [step, proj, silu, rms, Ideal.logistic,
    val_main_v7, val_main_v2, val_main_v1, val_main_v0]

theorem value_idxWeight (x : FVec Ideal S4x4096x1024 .f32) (w : FVec Ideal S1x1024x7520 .f32) :
    val_main_v53 (F := Ideal) x w = idxWeight x w := by
  funext i
  idx_vars i
  pointwise [idxWeight, proj, silu, rms, Ideal.logistic,
    val_main_v53, val_main_v41, val_main_v40, val_main_cst_6, val_main_v12, val_main_v2, val_main_v1, val_main_v0]

end Cert.ProjReferenceIdeal.Proj

namespace Cert.Proj

set_option maxHeartbeats 4000000 in
/-- Kernel and reference end with the same ten result arrays. -/
theorem algebraic : Cert.algebraic_ProjKernelIdeal_ProjReferenceIdeal
    (hProjKernelIdeal := Cert.ProjKernelIdeal.Gen.facts) (hProjReferenceIdeal := Cert.ProjReferenceIdeal.Gen.facts) := by
  pair_intro
  · run_from (Cert.ProjKernelIdeal.Value.run_blocks (F := Ideal) m g)
  · run_from (Cert.ProjReferenceIdeal.Value.run (F := Ideal) m' g')
    · exact (Cert.ProjReferenceIdeal.Read.val_main_v42_eq _ _).trans
        ((Cert.ProjReferenceIdeal.Proj.value_gates _ _).trans (Cert.ProjKernelIdeal.Proj.final_gates m c).symm)
    · exact (Cert.ProjReferenceIdeal.Read.val_main_v44_eq _ _).trans
        ((Cert.ProjReferenceIdeal.Proj.value_zgate _ _).trans (Cert.ProjKernelIdeal.Proj.final_zgate m c).symm)
    · exact (Cert.ProjReferenceIdeal.Read.val_main_v45_eq _ _).trans
        ((Cert.ProjReferenceIdeal.Proj.value_xbc _ _).trans (Cert.ProjKernelIdeal.Proj.final_xbc m c).symm)
    · exact (Cert.ProjReferenceIdeal.Read.val_main_v46_eq _ _).trans
        ((Cert.ProjReferenceIdeal.Proj.value_query _ _).trans (Cert.ProjKernelIdeal.Proj.final_query m c).symm)
    · exact (Cert.ProjReferenceIdeal.Read.val_main_v47_eq _ _ _).trans
        ((Cert.ProjReferenceIdeal.Proj.value_latent _ _ _).trans (Cert.ProjKernelIdeal.Proj.final_latent m c).symm)
    · exact (Cert.ProjReferenceIdeal.Read.val_main_v49_eq _ _ _).trans
        ((Cert.ProjReferenceIdeal.Proj.value_latentT _ _ _).trans (Cert.ProjKernelIdeal.Proj.final_latentT m c).symm)
    · exact (Cert.ProjReferenceIdeal.Read.val_main_v51_eq _ _).trans
        ((Cert.ProjReferenceIdeal.Proj.value_idxQuery _ _).trans (Cert.ProjKernelIdeal.Proj.final_idxQuery m c).symm)
    · exact (Cert.ProjReferenceIdeal.Read.val_main_v52_eq _ _).trans
        ((Cert.ProjReferenceIdeal.Proj.value_idxKey _ _).trans (Cert.ProjKernelIdeal.Proj.final_idxKey m c).symm)
    · exact (Cert.ProjReferenceIdeal.Read.val_main_v7_eq _ _).trans
        ((Cert.ProjReferenceIdeal.Proj.value_step _ _).trans (Cert.ProjKernelIdeal.Proj.final_step m c).symm)
    · exact (Cert.ProjReferenceIdeal.Read.val_main_v53_eq _ _).trans
        ((Cert.ProjReferenceIdeal.Proj.value_idxWeight _ _).trans (Cert.ProjKernelIdeal.Proj.final_idxWeight m c).symm)
end Cert.Proj

end
-- ==== Proof.Merge.lean ====
/-
  The merge of the two mixers: the kernel's result array and the reference's are both `merge` of the arguments.
  The kernel computes a block's rows in two halves; each row is the same function of the arguments in both.
-/
module

public import proofs.«01_k».proof.Defs
public import proofs.«01_k».proof.Proof.Layer
public import proofs.«01_k».proof.Proof.Gen.MergeKernelIdeal.Value
public import proofs.«01_k».proof.Proof.Gen.MergeReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Layer

namespace Cert.MergeKernelIdeal.Merge

open Cert.MergeKernelIdeal Cert.MergeKernelIdeal.Gen

/-- The residual the merge normalises, at one row and column: `α x + (s ∘ (y_ssd W_ssd) + a ∘ (y_att W_att)) W_out`, where
    `s` and `a` are the row's gates. -/
def mergeRow (x ys ya : Fin 1024 → EReal) (s a : Fin 1024 → EReal) (ps pa wo : Fin 1024 → Fin 1024 → EReal)
    (j : Fin 1024) : EReal :=
  Ideal.ofBits .f32 1066940400#32 * x j +
    ∑ n, (s n * (∑ k, ys k * ps k n) + a n * ∑ k, ya k * pa k n) * wo n j

/-- The merge's result: row `i` is token `i % 4096` of batch entry `i / 4096`; the first 1024 columns of the gates are the
    recurrence's, the last 1024 the attention's. -/
def merge (x ys ya : FVec Ideal S4x4096x1024 .f32) (s : FVec Ideal S4x4096x2048 .f32)
    (ps pa wo : FVec Ideal S1x1024x1024 .f32) (g b : FVec Ideal S1x1024 .f32) : FVec Ideal S16384x1024 .f32 := fun i =>
  have hi : (i 0).val < 16384 := (i 0).isLt
  let e : Fin 4 := ⟨(i 0).val / 4096, by omega⟩
  let t : Fin 4096 := ⟨(i 0).val % 4096, by omega⟩
  layerNorm
    (mergeRow (fun k => x (ix3 e t k)) (fun k => ys (ix3 e t k)) (fun k => ya (ix3 e t k))
      (fun n => s (ix3 e t ⟨n.val, by omega⟩)) (fun n => s (ix3 e t ⟨1024 + n.val, by omega⟩))
      (fun k n => ps (ix3 0 k n)) (fun k n => pa (ix3 0 k n)) fun n k => wo (ix3 0 n k))
    (g (ix2 0 (i 1))) (b (ix2 0 (i 1))) (i 1)

/-- The first half of a block, at row `r` and column `j`. -/
theorem first_apply (s : Vec Ideal S512x2048 .bf16) (ys ya : Vec Ideal S512x1024 .bf16) (ps pa wo : Vec Ideal S1024x1024 .bf16)
    (x : Vec Ideal S512x1024 .f32) (g b : Vec Ideal S1x1024 .f32) (r : Fin 512) (j : Fin 1024) :
    k0_pay6 (k0_pay2 s ys ps ya pa wo x) (k0_pay3 g) (k0_pay4 b) (k0_pay5 s ys ps ya pa wo x) (ix2 r j) =
      layerNorm (mergeRow (fun k => x (ix2 r k)) (fun k => ys (ix2 r k)) (fun k => ya (ix2 r k))
        (fun n => s (ix2 r ⟨n.val, by omega⟩)) (fun n => s (ix2 r ⟨1024 + n.val, by omega⟩))
        (fun k n => ps (ix2 k n)) (fun k n => pa (ix2 k n)) fun n k => wo (ix2 n k)) (g (ix2 0 j)) (b (ix2 0 j)) j := by
  pointwise [k0_pay2, k0_pay3, k0_pay4, k0_pay5, k0_pay6, layerNorm, mean, mergeRow]

/-- The second half's payload is the first's. -/
theorem second_eq (s : Vec Ideal S512x2048 .bf16) (ys ya : Vec Ideal S512x1024 .bf16) (ps pa wo : Vec Ideal S1024x1024 .bf16)
    (x : Vec Ideal S512x1024 .f32) (g b : Vec Ideal S1x1024 .f32) :
    k0_pay1 (k0_pay7 s ys ps ya pa wo) x g b =
      k0_pay6 (k0_pay2 s ys ps ya pa wo x) (k0_pay3 g) (k0_pay4 b) (k0_pay5 s ys ps ya pa wo x) := rfl

variable (m : (ℓ : Loc nD τ sig) → Buf (Elt Ideal) ℓ)

/-- Point `t` reads and writes rows `1024 t` to `1024 t + 1023`; the weights' one block is the array. -/
theorem idx : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = t.val ∧ win0_9.index t 1 = 0) := by decide +kernel

/-- The result array after the run. -/
theorem final (c : Dev nD) : (dats m 0 c).arrAt 9 cfg0.N =
    merge (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  idx_vars y
  have hN : t.val < 16 := lt_of_lt_of_eq t.isLt N_0
  have hx : ∀ r k : Fin 1024, iblk m c 0 t (ix2 r k) = m ((c : Thread nD τ).loc main_arg0)
      (ix3 ⟨(t.val * 1024 + r.val) / 4096, by omega⟩ ⟨(t.val * 1024 + r.val) % 4096, by omega⟩ k) := by
    intro r k
    blk_point [iblk, V, idx t]
  have hys : ∀ r k : Fin 1024, iblk m c 1 t (ix2 r k) = m ((c : Thread nD τ).loc main_arg1)
      (ix3 ⟨(t.val * 1024 + r.val) / 4096, by omega⟩ ⟨(t.val * 1024 + r.val) % 4096, by omega⟩ k) := by
    intro r k
    blk_point [iblk, V, idx t]
  have hya : ∀ r k : Fin 1024, iblk m c 2 t (ix2 r k) = m ((c : Thread nD τ).loc main_arg2)
      (ix3 ⟨(t.val * 1024 + r.val) / 4096, by omega⟩ ⟨(t.val * 1024 + r.val) % 4096, by omega⟩ k) := by
    intro r k
    blk_point [iblk, V, idx t]
  have hs : ∀ (r : Fin 1024) (n : Fin 2048), iblk m c 3 t (ix2 r n) = m ((c : Thread nD τ).loc main_arg3)
      (ix3 ⟨(t.val * 1024 + r.val) / 4096, by omega⟩ ⟨(t.val * 1024 + r.val) % 4096, by omega⟩ n) := by
    intro r n
    blk_point [iblk, V, idx t]
  have hps : ∀ k n : Fin 1024, iblk m c 4 t (ix2 k n) = m ((c : Thread nD τ).loc main_arg4) (ix3 0 k n) := by
    intro k n
    blk_point [iblk, V, idx t]
  have hpa : ∀ k n : Fin 1024, iblk m c 5 t (ix2 k n) = m ((c : Thread nD τ).loc main_arg5) (ix3 0 k n) := by
    intro k n
    blk_point [iblk, V, idx t]
  have hwo : ∀ k n : Fin 1024, iblk m c 6 t (ix2 k n) = m ((c : Thread nD τ).loc main_arg6) (ix3 0 k n) := by
    intro k n
    blk_point [iblk, V, idx t]
  have hg : ∀ k : Fin 1024, iblk m c 7 t (ix2 0 k) = m ((c : Thread nD τ).loc main_arg7) (ix2 0 k) := by
    intro k
    blk_point [iblk, V, idx t]
  have hb : ∀ k : Fin 1024, iblk m c 8 t (ix2 0 k) = m ((c : Thread nD τ).loc main_arg8) (ix2 0 k) := by
    intro k
    blk_point [iblk, V, idx t]
  have he : ((View.whole main_v17).slice (win0_9.rect t)).emb (ix2 y0 y1) = ix2 ⟨t.val * 1024 + y0.val, by omega⟩ y1 := by
    blk_ext [idx t]
  rw [he]
  canon_tiles x h
  all_goals
    idx_vars x
    try rw [second_eq]
    rw [first_apply]
    unfold merge
    obtain rfl : y1 = x1 := Fin.ext h1
    pointwise [hx, hys, hya, hs, hps, hpa, hwo, hg, hb]
    simp only [h0]

end Cert.MergeKernelIdeal.Merge

namespace Cert.MergeReferenceIdeal.Merge

open Cert.MergeReferenceIdeal Cert.MergeReferenceIdeal.Read

/-- The reference's last value, operation by operation, is the same function of the arguments. -/
theorem value (x ys ya : FVec Ideal S4x4096x1024 .f32) (s : FVec Ideal S4x4096x2048 .f32)
    (ps pa wo : FVec Ideal S1x1024x1024 .f32) (g b : FVec Ideal S1x1024 .f32) :
    val_main_v43 (F := Ideal) x ys ya s ps pa wo g b = Cert.MergeKernelIdeal.Merge.merge x ys ya s ps pa wo g b := by
  funext i
  idx_vars i
  pointwise [Cert.MergeKernelIdeal.Merge.merge, Cert.MergeKernelIdeal.Merge.mergeRow, layerNorm, mean,
    val_main_v0, val_main_v1, val_main_v2, val_main_v3, val_main_v4, val_main_v5, val_main_v6, val_main_v7,
    val_main_v8, val_main_v9, val_main_v10, val_main_v11, val_main_v12, val_main_cst, val_main_v13, val_main_v14,
    val_main_v15, val_main_v16, val_main_v17, val_main_cst_0, val_main_v18, val_main_v19, val_main_cst_1,
    val_main_v20, val_main_v21, val_main_v22, val_main_v23, val_main_v24, val_main_cst_2, val_main_v25,
    val_main_v26, val_main_cst_3, val_main_v27, val_main_v28, val_main_v29, val_main_v30, val_main_cst_4,
    val_main_v31, val_main_v32, val_main_v33, val_main_v34, val_main_v35, val_main_v36, val_main_v37, val_main_v38,
    val_main_v39, val_main_v40, val_main_v41, val_main_v42, val_main_v43]

end Cert.MergeReferenceIdeal.Merge

namespace Cert.Merge

/-- Kernel and reference end with the same result array. -/
theorem algebraic : Cert.algebraic_MergeKernelIdeal_MergeReferenceIdeal
    (hMergeKernelIdeal := Cert.MergeKernelIdeal.Gen.facts) (hMergeReferenceIdeal := Cert.MergeReferenceIdeal.Gen.facts) := by
  pair_intro
  · run_from (Cert.MergeKernelIdeal.Value.run_blocks (F := Ideal) m g)
  · run_from (Cert.MergeReferenceIdeal.Value.run (F := Ideal) m' g')
    rw [Cert.MergeReferenceIdeal.Read.val_main_v43_eq, Cert.MergeReferenceIdeal.Merge.value,
      Cert.MergeKernelIdeal.Merge.final]
    simp only [hagree c]

end Cert.Merge

end
-- ==== Proof.Mem.lean ====
/-
  The memory's keys and values: the kernel's result array and the reference's are both the product of the memory's rows
  with the weights.
-/
module

public import proofs.«01_k».proof.Defs
public import proofs.«01_k».proof.Proof.Layer
public import proofs.«01_k».proof.Proof.Gen.MemKernelIdeal.Value
public import proofs.«01_k».proof.Proof.Gen.MemReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Layer

namespace Cert.MemKernelIdeal.Mem

open Cert.MemKernelIdeal Cert.MemKernelIdeal.Gen

/-- The product: row `i` is the memory's row `i % 256` of batch entry `i / 256`. -/
def memKv (x : FVec Ideal S4x256x1024 .f32) (w : FVec Ideal S1x1024x2048 .f32) : FVec Ideal S1024x2048 .bf16 := fun i =>
  ∑ k, x (ix3 ⟨(i 0).val / 256, by have : (i 0).val < 1024 := (i 0).isLt; omega⟩ ⟨(i 0).val % 256, by omega⟩ k) *
    w (ix3 0 k (i 1))

variable (m : (ℓ : Loc nD τ sig) → Buf (Elt Ideal) ℓ)

/-- Point `t` reads and writes rows `256 t` to `256 t + 255`; the weights' one block is the array. -/
theorem idx : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by decide +kernel

/-- The result array after the run. -/
theorem final (c : Dev nD) : (dats m 0 c).arrAt 2 cfg0.N =
    memKv (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hN : t.val < 4 := lt_of_lt_of_eq t.isLt N_0
  have hx : ∀ k : Fin 1024, iblk m c 0 t (ix2 y0 k) = m ((c : Thread nD τ).loc main_arg0)
      (ix3 ⟨(t.val * 256 + y0.val) / 256, by omega⟩ ⟨(t.val * 256 + y0.val) % 256, by omega⟩ k) := by
    intro k
    blk_point [iblk, V, idx t]
  have hw : ∀ (k : Fin 1024) (n : Fin 2048), iblk m c 1 t (ix2 k n) = m ((c : Thread nD τ).loc main_arg1) (ix3 0 k n) := by
    intro k n
    blk_point [iblk, V, idx t]
  have he : ((View.whole main_v3).slice (win0_2.rect t)).emb (ix2 y0 y1) = ix2 ⟨t.val * 256 + y0.val, by omega⟩ y1 := by
    blk_ext [idx t]
  have hp : ∀ (x : Vec Ideal S256x1024 .f32) (w : Vec Ideal S1024x2048 .bf16), k0_pay1 x w (ix2 y0 y1) =
      ∑ k : Fin 1024, x (ix2 y0 k) * w (ix2 k y1) := by
    intro x w
    pointwise [k0_pay1]
  rw [he, hp]
  unfold memKv
  simp only [hx, hw, ix2_0, ix2_1]

end Cert.MemKernelIdeal.Mem

namespace Cert.MemReferenceIdeal.Mem

open Cert.MemReferenceIdeal Cert.MemReferenceIdeal.Read

/-- The reference's last value is the same product. -/
theorem value (x : FVec Ideal S4x256x1024 .f32) (w : FVec Ideal S1x1024x2048 .f32) :
    val_main_v3 (F := Ideal) x w = Cert.MemKernelIdeal.Mem.memKv x w := by
  funext i
  idx_vars i
  pointwise [Cert.MemKernelIdeal.Mem.memKv,
    val_main_v0, val_main_v1, val_main_v2, val_main_v3]

end Cert.MemReferenceIdeal.Mem

namespace Cert.Mem

/-- Kernel and reference end with the same result array. -/
theorem algebraic : Cert.algebraic_MemKernelIdeal_MemReferenceIdeal
    (hMemKernelIdeal := Cert.MemKernelIdeal.Gen.facts) (hMemReferenceIdeal := Cert.MemReferenceIdeal.Gen.facts) := by
  pair_intro
  · run_from (Cert.MemKernelIdeal.Value.run_blocks (F := Ideal) m g)
  · run_from (Cert.MemReferenceIdeal.Value.run (F := Ideal) m' g')
    rw [Cert.MemReferenceIdeal.Read.val_main_v3_eq, Cert.MemReferenceIdeal.Mem.value, Cert.MemKernelIdeal.Mem.final]

end Cert.Mem

end
-- ==== Proof.Xattn.lean ====
/-
  The memory cross-attention and the layer norm after it: the kernel's result array and the reference's are the same function
  of the arguments. The kernel scales the queries before the product with the keys and divides by the sum of the weights
  after the product with the values; where every row of scores has a finite greatest entry, both are the softmax.
-/
module

public import proofs.«01_k».proof.Defs
public import proofs.«01_k».proof.Proof.Layer
public import proofs.«01_k».proof.Proof.Gen.XattnKernelIdeal.Value
public import proofs.«01_k».proof.Proof.Gen.XattnReferenceIdeal.Read
public import proofs.«01_k».proof.Proof.Gen.Pre_greatest_score_finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Layer

namespace Cert.XattnKernelIdeal.Xattn

open Cert.XattnKernelIdeal Cert.XattnKernelIdeal.Gen Cert.Layer

/-- The exponential of score `m` less the greatest score. -/
def weight (s : Fin 256 → EReal) (m : Fin 256) : EReal :=
  Ideal.exp (s m - Finset.univ.fold max (Ideal.ofBits .f32 0xFF800000#32) s)

/-- One head of one token over 256 memory tokens: the values weighted, over the sum of the weights. -/
def head (q : Fin 256 → EReal) (k v : Fin 256 → Fin 256 → EReal) (j : Fin 256) : EReal :=
  Ideal.div (∑ m, weight (fun m => ∑ d, q d * k m d) m * v m j) (∑ m, weight (fun m => ∑ d, q d * k m d) m)

theorem neg_inf : Ideal.ofBits .f32 0xFF800000#32 = ⊥ := by simp [Ideal.ofBits, Ideal.ieee]

theorem inf : Ideal.ofBits .f32 0x7F800000#32 = ⊤ := by simp [Ideal.ofBits, Ideal.ieee]

/-- The scale of the scores is a sixteenth. -/
theorem scale_eq : Ideal.ofBits .f32 0x3D800000#32 = ((1 / 16 : ℝ) : EReal) := by
  simp [Ideal.ofBits, Ideal.ieee, -EReal.coe_mul]; norm_num

/-- A finite sum times a nonnegative real is the sum of the products, infinite terms included. -/
theorem sum_mul_real {ι : Type} (s : Finset ι) (f : ι → EReal) {a : EReal} (h0 : 0 ≤ a) (h1 : a ≠ ⊤) :
    (∑ i ∈ s, f i) * a = ∑ i ∈ s, f i * a := by
  classical
  induction s using Finset.induction_on with
  | empty => simp
  | insert i s hi ih =>
    rw [Finset.sum_insert hi, Finset.sum_insert hi, EReal.right_distrib_of_nonneg_of_ne_top h0 h1, ih]

/-- A sum of nonnegative terms below `⊤` is below `⊤`. -/
theorem sum_ne_top {ι : Type} (s : Finset ι) (f : ι → EReal) (h0 : ∀ i, 0 ≤ f i) (h1 : ∀ i, f i ≠ ⊤) :
    ∑ i ∈ s, f i ≠ ⊤ := by
  classical
  induction s using Finset.induction_on with
  | empty => simp
  | insert i s hi ih =>
    rw [Finset.sum_insert hi]
    exact EReal.add_ne_top (h1 i) ih

theorem exp_nonneg (x : EReal) : 0 ≤ Ideal.exp x := by
  induction x with
  | bot => exact le_refl _
  | top => exact le_top
  | coe r => exact EReal.coe_nonneg.2 (Real.exp_pos r).le

theorem exp_ne_top {x : EReal} (h : x ≠ ⊤) : Ideal.exp x ≠ ⊤ := by
  induction x with
  | bot => exact EReal.zero_ne_top
  | top => exact absurd rfl h
  | coe r => exact EReal.coe_ne_top _

/-- The scores with a greatest entry that is a real number: the weights' sum is a positive real number. -/
theorem weights (s : Fin 256 → EReal) (M : ℝ) (hM : Finset.univ.fold max ⊥ s = (M : EReal)) :
    (∀ m, 0 ≤ weight s m) ∧ (∑ m, weight s m) ≠ ⊤ ∧ 1 ≤ ∑ m, weight s m := by
  have hle : ∀ m, s m ≤ (M : EReal) := fun m => ((Finset.fold_max_le _).1 hM.le).2 m (Finset.mem_univ m)
  have hw : ∀ m, weight s m = Ideal.exp (s m - (M : EReal)) := fun m => by rw [weight, neg_inf, hM]
  have h0 : ∀ m, 0 ≤ weight s m := fun m => exp_nonneg _
  have h1 : ∀ m, weight s m ≠ ⊤ := fun m => by
    rw [hw]
    refine exp_ne_top (ne_of_lt ?_)
    refine lt_of_le_of_lt (EReal.sub_le_sub (hle m) le_rfl) ?_
    rw [← EReal.coe_sub]
    exact EReal.coe_lt_top _
  refine ⟨h0, sum_ne_top _ _ h0 h1, ?_⟩
  obtain h | ⟨m, -, hm⟩ := (Finset.le_fold_max _).1 hM.ge
  · exact absurd (le_bot_iff.1 h) (EReal.coe_ne_bot M)
  · have e : weight s m = 1 := by
      rw [hw, le_antisymm (hle m) hm, ← EReal.coe_sub, sub_self]
      show ((Real.exp 0 : ℝ) : EReal) = 1
      rw [Real.exp_zero]; rfl
    rw [← e]
    exact Finset.single_le_sum (fun i _ => h0 i) (Finset.mem_univ m)

/-- Dividing the weighted sum is weighting by the divided weights. -/
theorem div_sum (s v : Fin 256 → EReal) (M : ℝ) (hM : Finset.univ.fold max ⊥ s = (M : EReal)) :
    Ideal.div (∑ m, weight s m * v m) (∑ m, weight s m) = ∑ m, v m * Ideal.div (weight s m) (∑ m, weight s m) := by
  obtain ⟨h0, h1, h2⟩ := weights s M hM
  have hne : (∑ m, weight s m) ≠ 0 := fun h => by rw [h] at h2; exact absurd h2 (by norm_num)
  have hi0 : (0 : EReal) ≤ (∑ m, weight s m)⁻¹ := EReal.inv_nonneg_of_nonneg (Finset.sum_nonneg fun i _ => h0 i)
  have hi1 : (∑ m, weight s m)⁻¹ ≠ ⊤ := by
    lift (∑ m, weight s m) to ℝ using ⟨h1, fun h => by rw [h] at h2; exact absurd (le_bot_iff.1 h2) (EReal.coe_ne_bot 1)⟩ with r
    rw [← EReal.coe_inv]
    exact EReal.coe_ne_top _
  unfold Ideal.div
  simp only [if_neg hne]
  rw [sum_mul_real _ _ hi0 hi1]
  refine Finset.sum_congr rfl fun m _ => ?_
  rw [mul_comm (weight s m) (v m), mul_assoc]

/-- A head over scaled queries is the softmax of the scaled scores, where the greatest score is finite. -/
theorem head_eq (q : Fin 256 → EReal) (k v : Fin 256 → Fin 256 → EReal) (j : Fin 256) (M : ℝ)
    (hM : Finset.univ.fold max ⊥ (fun m => ∑ d, q d * k m d) = (M : EReal)) :
    head (fun d => q d * Ideal.ofBits .f32 0x3D800000#32) k v j =
      ∑ m, v m j * Ideal.div (weight (fun m => (∑ d, q d * k m d) * Ideal.ofBits .f32 0x3D800000#32) m)
        (∑ m, weight (fun m => (∑ d, q d * k m d) * Ideal.ofBits .f32 0x3D800000#32) m) := by
  have c0 : (0 : EReal) ≤ ((1 / 16 : ℝ) : EReal) := EReal.coe_nonneg.2 (by norm_num)
  have hs : (fun m => ∑ d, q d * Ideal.ofBits .f32 0x3D800000#32 * k m d) =
      fun m => (∑ d, q d * k m d) * Ideal.ofBits .f32 0x3D800000#32 := by
    funext m
    rw [scale_eq, sum_mul_real _ _ c0 (EReal.coe_ne_top _)]
    exact Finset.sum_congr rfl fun d _ => mul_right_comm _ _ _
  have hM' : Finset.univ.fold max ⊥ (fun m => (∑ d, q d * k m d) * Ideal.ofBits .f32 0x3D800000#32) =
      ((M * (1 / 16) : ℝ) : EReal) := by
    rw [scale_eq, EReal.coe_mul]
    refine le_antisymm ((Finset.fold_max_le _).2 ⟨bot_le, fun m _ => ?_⟩) ((Finset.le_fold_max _).2 (Or.inr ?_))
    · exact mul_le_mul_of_nonneg_right (((Finset.fold_max_le _).1 hM.le).2 m (Finset.mem_univ m)) c0
    · obtain h | ⟨m, hm, h⟩ := (Finset.le_fold_max _).1 hM.ge
      · exact absurd (le_bot_iff.1 h) (EReal.coe_ne_bot M)
      · exact ⟨m, hm, mul_le_mul_of_nonneg_right h c0⟩
  unfold head
  rw [hs]
  exact div_sum _ _ _ hM'

/-- The four heads side by side. -/
def heads (q : Fin 1024 → EReal) (kv : Fin 256 → Fin 2048 → EReal) (n : Fin 1024) : EReal :=
  head (fun d => q ⟨n.val / 256 * 256 + d.val, by omega⟩) (fun m d => kv m ⟨n.val / 256 * 256 + d.val, by omega⟩)
    (fun m d => kv m ⟨1024 + (n.val / 256 * 256 + d.val), by omega⟩) ⟨n.val % 256, by omega⟩

/-- A token's row before its layer norm, from what attention gave it. -/
def row (x att : Fin 1024 → EReal) (wo : Fin 1024 → Fin 1024 → EReal) (j : Fin 1024) : EReal :=
  Ideal.ofBits .f32 0x3F9837F0#32 * x j + ∑ n, att n * wo n j

/-- The scaled queries of a token. -/
def query (x : Fin 1024 → EReal) (wq : Fin 1024 → Fin 1024 → EReal) (n : Fin 1024) : EReal :=
  (∑ i, x i * wq i n) * Ideal.ofBits .f32 0x3D800000#32

/-- The result: row `i` is token `i % 4096` of batch entry `i / 4096`. -/
def xattn (x : FVec Ideal S4x4096x1024 .f32) (kv : FVec Ideal S4x256x2048 .f32) (wq wo : FVec Ideal S1x1024x1024 .f32)
    (g b : FVec Ideal S1x1024 .f32) : FVec Ideal S16384x1024 .f32 := fun i =>
  have hi : (i 0).val < 16384 := (i 0).isLt
  let e : Fin 4 := ⟨(i 0).val / 4096, by omega⟩
  let t : Fin 4096 := ⟨(i 0).val % 4096, by omega⟩
  layerNorm (row (fun k => x (ix3 e t k))
      (heads (query (fun k => x (ix3 e t k)) fun k n => wq (ix3 0 k n)) fun m n => kv (ix3 e m n)) fun n j => wo (ix3 0 n j))
    (g (ix2 0 (i 1))) (b (ix2 0 (i 1))) (i 1)

/-! One head of a half block of 512 tokens, at row `r` and column `j`. -/

theorem head0 (x : Vec Ideal S512x1024 .f32) (wq : Vec Ideal S1024x1024 .bf16) (kv : Vec Ideal S256x2048 .bf16)
    (r : Fin 512) (j : Fin 256) : k0_pay4 x wq (View.ld kv r0_2) (View.ld kv r0_3) (ix2 r j) =
      head (fun d => query (fun k => x (ix2 r k)) (fun k n => wq (ix2 k n)) ⟨d.val, by omega⟩)
        (fun m d => kv (ix2 m ⟨d.val, by omega⟩)) (fun m d => kv (ix2 m ⟨1024 + d.val, by omega⟩)) j := by
  pointwise [k0_pay2, k0_pay3, k0_pay4, head, query, weight]

theorem head1 (x : Vec Ideal S512x1024 .f32) (wq : Vec Ideal S1024x1024 .bf16) (kv : Vec Ideal S256x2048 .bf16)
    (r : Fin 512) (j : Fin 256) :
    k0_pay7 (k0_pay5 x wq (View.ld kv r0_4)) (k0_pay6 x wq (View.ld kv r0_4)) (View.ld kv r0_5) (ix2 r j) =
      head (fun d => query (fun k => x (ix2 r k)) (fun k n => wq (ix2 k n)) ⟨256 + d.val, by omega⟩)
        (fun m d => kv (ix2 m ⟨256 + d.val, by omega⟩)) (fun m d => kv (ix2 m ⟨1280 + d.val, by omega⟩)) j := by
  pointwise [k0_pay2, k0_pay3, k0_pay5, k0_pay6, k0_pay7, head, query, weight]

theorem head2 (x : Vec Ideal S512x1024 .f32) (wq : Vec Ideal S1024x1024 .bf16) (kv : Vec Ideal S256x2048 .bf16)
    (r : Fin 512) (j : Fin 256) : k0_pay8 (k0_pay3 x wq) (View.ld kv r0_6) (View.ld kv r0_7) (ix2 r j) =
      head (fun d => query (fun k => x (ix2 r k)) (fun k n => wq (ix2 k n)) ⟨512 + d.val, by omega⟩)
        (fun m d => kv (ix2 m ⟨512 + d.val, by omega⟩)) (fun m d => kv (ix2 m ⟨1536 + d.val, by omega⟩)) j := by
  pointwise [k0_pay2, k0_pay3, k0_pay8, head, query, weight]

theorem head3 (x : Vec Ideal S512x1024 .f32) (wq : Vec Ideal S1024x1024 .bf16) (kv : Vec Ideal S256x2048 .bf16)
    (r : Fin 512) (j : Fin 256) : k0_pay9 (k0_pay3 x wq) (View.ld kv r0_8) (View.ld kv r0_9) (ix2 r j) =
      head (fun d => query (fun k => x (ix2 r k)) (fun k n => wq (ix2 k n)) ⟨768 + d.val, by omega⟩)
        (fun m d => kv (ix2 m ⟨768 + d.val, by omega⟩)) (fun m d => kv (ix2 m ⟨1792 + d.val, by omega⟩)) j := by
  pointwise [k0_pay2, k0_pay3, k0_pay9, head, query, weight]

/-- The output projection and the layer norm of a half block, the heads given. -/
theorem tail_apply (x : Vec Ideal S512x1024 .f32) (o0 o1 o2 : FVec Ideal S512x256 .bf16) (o3 : FVec Ideal S512x256 .f32)
    (wo : Vec Ideal S1024x1024 .bf16) (g b : Vec Ideal S1x1024 .f32) (r : Fin 512) (j : Fin 1024) :
    k0_pay10 (k0_pay2 x) o0 o1 o2 o3 wo g b (ix2 r j) =
      layerNorm (row (fun k => x (ix2 r k))
        (fun n => if h0 : n.val < 256 then o0 (ix2 r ⟨n.val, h0⟩)
          else if h1 : n.val - 256 < 256 then o1 (ix2 r ⟨n.val - 256, h1⟩)
          else if h2 : n.val - 256 - 256 < 256 then o2 (ix2 r ⟨n.val - 256 - 256, h2⟩)
          else o3 (ix2 r ⟨n.val - 256 - 256 - 256, by omega⟩)) fun n j => wo (ix2 n j)) (g (ix2 0 j)) (b (ix2 0 j)) j := by
  pointwise [k0_pay2, k0_pay10, layerNorm, mean, row]

/-- A half block's payload. -/
def tile (x : Vec Ideal S512x1024 .f32) (kv : Vec Ideal S256x2048 .bf16) (wq wo : Vec Ideal S1024x1024 .bf16)
    (g b : Vec Ideal S1x1024 .f32) : FVec Ideal S512x1024 .f32 :=
  k0_pay10 (k0_pay2 x) (k0_pay4 x wq (View.ld kv r0_2) (View.ld kv r0_3))
    (k0_pay7 (k0_pay5 x wq (View.ld kv r0_4)) (k0_pay6 x wq (View.ld kv r0_4)) (View.ld kv r0_5))
    (k0_pay8 (k0_pay3 x wq) (View.ld kv r0_6) (View.ld kv r0_7)) (k0_pay9 (k0_pay3 x wq) (View.ld kv r0_8) (View.ld kv r0_9)) wo g b

theorem tile_apply (x : Vec Ideal S512x1024 .f32) (kv : Vec Ideal S256x2048 .bf16) (wq wo : Vec Ideal S1024x1024 .bf16)
    (g b : Vec Ideal S1x1024 .f32) (r : Fin 512) (j : Fin 1024) : tile x kv wq wo g b (ix2 r j) =
      layerNorm (row (fun k => x (ix2 r k))
        (heads (query (fun k => x (ix2 r k)) fun k n => wq (ix2 k n)) fun m n => kv (ix2 m n)) fun n j => wo (ix2 n j))
        (g (ix2 0 j)) (b (ix2 0 j)) j := by
  unfold tile
  rw [tail_apply]
  refine congrArg (fun a => layerNorm (row (fun k => x (ix2 r k)) a fun n j => wo (ix2 n j)) (g (ix2 0 j)) (b (ix2 0 j)) j) ?_
  funext n
  unfold heads
  split
  · have e : n.val / 256 = 0 := by omega
    have e' : n.val % 256 = n.val := by omega
    rw [head0]
    simp only [e, e', Nat.zero_mul, Nat.zero_add]
  split
  · have e : n.val / 256 = 1 := by omega
    have e' : n.val % 256 = n.val - 256 := by omega
    rw [head1]
    simp only [e, e', Nat.one_mul, ← Nat.add_assoc, Nat.reduceAdd]
  split
  · have e : n.val / 256 = 2 := by omega
    have e' : n.val % 256 = n.val - 256 - 256 := by omega
    rw [head2]
    simp only [e, e', Nat.reduceMul, ← Nat.add_assoc, Nat.reduceAdd]
  · have e : n.val / 256 = 3 := by omega
    have e' : n.val % 256 = n.val - 256 - 256 - 256 := by omega
    rw [head3]
    simp only [e, e', Nat.reduceMul, ← Nat.add_assoc, Nat.reduceAdd]

variable (m : (ℓ : Loc nD τ sig) → Buf (Elt Ideal) ℓ)

/-- Point `t` reads and writes rows `1024 t` to `1024 t + 1023` and reads batch entry `t / 4`'s keys and values; the weights'
    one block is the array. -/
theorem idx : ∀ t : Fin cfg0.N, (win0_0.index t 0 = t.val ∧ win0_0.index t 1 = 0)
    ∧ (win0_1.index t 0 = t.val / 4 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0) := by decide +kernel

/-- The result array after the run. -/
theorem final (c : Dev nD) : (dats m 0 c).arrAt 6 cfg0.N =
    xattn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  have hN : t.val < 16 := lt_of_lt_of_eq t.isLt N_0
  have hx : ∀ r k : Fin 1024, iblk m c 0 t (ix2 r k) = m ((c : Thread nD τ).loc main_arg0)
      (ix3 ⟨(t.val * 1024 + r.val) / 4096, by omega⟩ ⟨(t.val * 1024 + r.val) % 4096, by omega⟩ k) := by
    intro r k
    blk_point [iblk, V, idx t]
  have hkv : ∀ (m' : Fin 256) (n : Fin 2048), iblk m c 1 t (ix2 m' n) = m ((c : Thread nD τ).loc main_arg1)
      (ix3 ⟨t.val / 4, by omega⟩ m' n) := by
    intro r k
    blk_point [iblk, V, idx t]
  have hwq' : ∀ k n : Fin 1024, iblk m c 2 t (ix2 k n) = m ((c : Thread nD τ).loc main_arg2) (ix3 0 k n) := by
    intro k n
    blk_point [iblk, V, idx t]
  have hwq : ∀ k n : Fin 1024, View.ld (iblk m c 2 t) r0_1 (ix2 k n) = m ((c : Thread nD τ).loc main_arg2) (ix3 0 k n) := by
    intro k n
    pointwise [hwq']
  have hwo' : ∀ k n : Fin 1024, iblk m c 3 t (ix2 k n) = m ((c : Thread nD τ).loc main_arg3) (ix3 0 k n) := by
    intro k n
    blk_point [iblk, V, idx t]
  have hwo : ∀ k n : Fin 1024, View.ld (iblk m c 3 t) r0_1 (ix2 k n) = m ((c : Thread nD τ).loc main_arg3) (ix3 0 k n) := by
    intro k n
    pointwise [hwo']
  have hg' : ∀ k : Fin 1024, iblk m c 4 t (ix2 0 k) = m ((c : Thread nD τ).loc main_arg4) (ix2 0 k) := by
    intro k
    blk_point [iblk, V, idx t]
  have hg : ∀ k : Fin 1024, View.ld (iblk m c 4 t) r0_10 (ix2 0 k) = m ((c : Thread nD τ).loc main_arg4) (ix2 0 k) := by
    intro k
    pointwise [hg']
  have hb' : ∀ k : Fin 1024, iblk m c 5 t (ix2 0 k) = m ((c : Thread nD τ).loc main_arg5) (ix2 0 k) := by
    intro k
    blk_point [iblk, V, idx t]
  have hb : ∀ k : Fin 1024, View.ld (iblk m c 5 t) r0_10 (ix2 0 k) = m ((c : Thread nD τ).loc main_arg5) (ix2 0 k) := by
    intro k
    pointwise [hb']
  have he : ((View.whole main_v11).slice (win0_6.rect t)).emb (ix2 y0 y1) = ix2 ⟨t.val * 1024 + y0.val, by omega⟩ y1 := by
    blk_ext [idx t]
  rw [he]
  have hq : (t.val * 1024 + y0.val) / 4096 = t.val / 4 := by omega
  have half : ∀ (r : Fin 512) (u : Vec Ideal S512x1024 .f32), (∀ k, u (ix2 r k) = iblk m c 0 t (ix2 y0 k)) →
      tile u (iblk m c 1 t) (View.ld (iblk m c 2 t) r0_1) (View.ld (iblk m c 3 t) r0_1) (View.ld (iblk m c 4 t) r0_10)
        (View.ld (iblk m c 5 t) r0_10) (ix2 r y1) =
      xattn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ix2 ⟨t.val * 1024 + y0.val, by omega⟩ y1) := by
    intro r u hu
    rw [tile_apply]
    unfold xattn
    simp only [hu, hx, hkv, hwq, hwo, hg, hb, ix2_0, ix2_1, hq]
  canon_tiles x h
  · idx_vars x
    obtain rfl : y1 = x1 := Fin.ext h1
    refine half x0 (View.ld (iblk m c 0 t) r0_11) fun k => ?_
    rw [show y0 = ⟨512 + x0.val, by omega⟩ from Fin.ext h0]
    pointwise []
  · idx_vars x
    obtain rfl : y1 = x1 := Fin.ext h1
    refine half x0 (View.ld (iblk m c 0 t) r0_0) fun k => ?_
    rw [show y0 = ⟨x0.val, by omega⟩ from Fin.ext h0]
    pointwise []

end Cert.XattnKernelIdeal.Xattn

namespace Cert.XattnReferenceIdeal.Xattn

open Cert.XattnReferenceIdeal Cert.XattnReferenceIdeal.Read Cert.XattnKernelIdeal.Xattn Cert.Layer

variable (x : FVec Ideal S4x4096x1024 .f32) (kv : FVec Ideal S4x256x2048 .f32) (wq : FVec Ideal S1x1024x1024 .f32)

/-! The reference's values, stage by stage. -/

theorem q_apply (e : Fin 4) (t : Fin 4096) (h : Fin 4) (d : Fin 256) : val_main_v2 (F := Ideal) x wq (ix4 e t h d) =
    ∑ i, x (ix3 e t i) * wq (ix3 0 i ⟨h.val * 256 + d.val, by omega⟩) := by
  pointwise [val_main_v2, val_main_v1, val_main_v0]

theorem k_apply (e : Fin 4) (m : Fin 256) (h : Fin 4) (d : Fin 256) : val_main_v5 (F := Ideal) kv (ix4 e m h d) =
    kv (ix3 e m ⟨h.val * 256 + d.val, by omega⟩) := by
  pointwise [val_main_v5, val_main_v3]

theorem v_apply (e : Fin 4) (m : Fin 256) (h : Fin 4) (d : Fin 256) : val_main_v6 (F := Ideal) kv (ix4 e m h d) =
    kv (ix3 e m ⟨1024 + (h.val * 256 + d.val), by omega⟩) := by
  pointwise [val_main_v6, val_main_v4]

theorem s_apply (e : Fin 4) (m : Fin 256) (h : Fin 4) (t : Fin 4096) : val_main_v7 (F := Ideal) x kv wq (ix4 e h t m) =
    ∑ d, val_main_v2 (F := Ideal) x wq (ix4 e t h d) * val_main_v5 (F := Ideal) kv (ix4 e m h d) := by
  pointwise [val_main_v7]

theorem c_apply (e : Fin 4) (m : Fin 256) (h : Fin 4) (t : Fin 4096) : val_main_v9 (F := Ideal) x kv wq (ix4 e h t m) =
    val_main_v7 (F := Ideal) x kv wq (ix4 e h t m) * Ideal.ofBits .f32 0x3D800000#32 := by
  pointwise [val_main_v9, val_main_v8, val_main_cst]

theorem m_apply (e : Fin 4) (h : Fin 4) (t : Fin 4096) : val_main_v10 (F := Ideal) x kv wq (ix3 e h t) =
    Finset.univ.fold max (Ideal.ofBits .f32 0xFF800000#32) fun m => val_main_v9 (F := Ideal) x kv wq (ix4 e h t m) := by
  pointwise [val_main_v10, val_main_cst_0]

theorem g_apply (e : Fin 4) (h : Fin 4) (t : Fin 4096) : val_main_v12 (F := Ideal) x kv wq (ix3 e h t) =
    max (Ideal.ofBits .f32 0xFF800000#32) (val_main_v10 (F := Ideal) x kv wq (ix3 e h t)) := by
  rw [val_main_v12_apply, val_main_v11_apply, val_main_cst_1_apply]
  generalize val_main_v10 (F := Ideal) x kv wq (ix3 e h t) = u
  rfl

theorem z_apply (e : Fin 4) (m : Fin 256) (h : Fin 4) (t : Fin 4096) : val_main_v16 (F := Ideal) x kv wq (ix4 e h t m) =
    Ideal.exp (val_main_v9 (F := Ideal) x kv wq (ix4 e h t m) - val_main_v12 (F := Ideal) x kv wq (ix3 e h t)) := by
  pointwise [val_main_v16, val_main_v15, val_main_v14, val_main_v13]

theorem p_apply (e : Fin 4) (m : Fin 256) (h : Fin 4) (t : Fin 4096) : val_main_v16 (F := Ideal) x kv wq (ix4 e h t m) =
    weight (fun m => val_main_v9 (F := Ideal) x kv wq (ix4 e h t m)) m := by
  rw [z_apply, g_apply, m_apply, XattnKernelIdeal.Xattn.neg_inf, max_bot_left, weight, XattnKernelIdeal.Xattn.neg_inf]

theorem d_apply (e : Fin 4) (m : Fin 256) (h : Fin 4) (t : Fin 4096) : val_main_v20 (F := Ideal) x kv wq (ix4 e h t m) =
    Ideal.div (val_main_v16 (F := Ideal) x kv wq (ix4 e h t m)) (∑ m, val_main_v16 (F := Ideal) x kv wq (ix4 e h t m)) := by
  pointwise [val_main_v20, val_main_v19, val_main_v18, val_main_v17, val_main_cst_2]

theorem o_apply (e : Fin 4) (t : Fin 4096) (n : Fin 1024) : val_main_v23 (F := Ideal) x kv wq (ix3 e t n) =
    ∑ m, val_main_v6 (F := Ideal) kv (ix4 e m ⟨n.val / 256, by omega⟩ ⟨n.val % 256, by omega⟩) *
      val_main_v20 (F := Ideal) x kv wq (ix4 e ⟨n.val / 256, by omega⟩ t m) := by
  pointwise [val_main_v21, val_main_v22, val_main_v23]

/-- The precondition's last steps, as a function of the scores. -/
abbrev test [Cert.Pre_greatest_score_finite.Facts] (s : FVec Ideal Cert.Pre_greatest_score_finite.S4x4x4096x256 .f32) :
    IVec Cert.Pre_greatest_score_finite.S4x4x4096 1 :=
  cmpf .olt (Host.absf (F := Ideal) (φ := .f32) (Host.reduce FloatOps.maximumf s (constant (F := Ideal) Cert.Pre_greatest_score_finite.S_ .f32 0xFF800000#32)
    Cert.Pre_greatest_score_finite.Facts.reducesTo_S4x4x4096x256_S4x4x4096_d3 Cert.Pre_greatest_score_finite.Facts.h_S_))
    (broadcastInDim Cert.Pre_greatest_score_finite.S4x4x4096 ![] Cert.Pre_greatest_score_finite.Facts.bcast_S_S4x4x4096
      (constant (F := Ideal) Cert.Pre_greatest_score_finite.S_ .f32 0x7F800000#32))

/-- A number whose absolute value is less than infinity is real. -/
theorem real_of_test (a b : EReal) (hb : b = ⊤)
    (h : FloatOps.cmpf (F := Ideal) (φ := .f32) .olt (FloatOps.absf (F := Ideal) (φ := .f32) a) b = 1#1) : ∃ M : ℝ, a = (M : EReal) := by
  have h2 : max a (-a) < ⊤ := by
    by_contra hc
    have h3 : BitVec.ofBool (decide (max a (-a) < b)) = 1#1 := h
    rw [hb, decide_eq_false hc] at h3
    exact absurd h3 (by decide)
  refine ⟨a.toReal, (EReal.coe_toReal ?_ ?_).symm⟩
  · rintro rfl
    simp at h2
  · rintro rfl
    simp at h2

/-- The test's reduction over the memory's slots. -/
theorem reduce_apply [Cert.Pre_greatest_score_finite.Facts] (s : FVec Ideal Cert.Pre_greatest_score_finite.S4x4x4096x256 .f32)
    (u : FVec Ideal Cert.Pre_greatest_score_finite.S_ .f32) (e : Fin 4) (h : Fin 4) (t : Fin 4096) :
    Host.reduce FloatOps.maximumf s u Cert.Pre_greatest_score_finite.Facts.reducesTo_S4x4x4096x256_S4x4x4096_d3
      Cert.Pre_greatest_score_finite.Facts.h_S_ (ix3 e h t) = Finset.univ.fold max (u (Shape.Idx.first Cert.Pre_greatest_score_finite.Facts.h_S_)) fun m => s (ix4 e h t m) := by
  pointwise []

/-- The test's right side. -/
theorem bound_apply [Cert.Pre_greatest_score_finite.Facts] (u : FVec Ideal Cert.Pre_greatest_score_finite.S_ .f32)
    (e : Fin 4) (h : Fin 4) (t : Fin 4096) :
    broadcastInDim Cert.Pre_greatest_score_finite.S4x4x4096 ![] Cert.Pre_greatest_score_finite.Facts.bcast_S_S4x4x4096 u
      (ix3 e h t) = u ix0 := by
  pointwise []

/-- A constant at an index. -/
theorem word (b : BitVec 32) (i : Cert.Pre_greatest_score_finite.S_.Idx) :
    constant (F := Ideal) Cert.Pre_greatest_score_finite.S_ .f32 b i = Ideal.ofBits .f32 b := rfl

/-- The test, of any greatest scores and any bound. -/
theorem real_of_cmpf (u v : FVec Ideal Cert.Pre_greatest_score_finite.S4x4x4096 .f32) (i : Cert.Pre_greatest_score_finite.S4x4x4096.Idx)
    (hb : v i = ⊤) (h : cmpf .olt (Host.absf u) v i = 1#1) : ∃ M : ℝ, u i = (M : EReal) :=
  real_of_test _ _ hb h

/-- Where the test holds, the greatest score is a real number. -/
theorem test_apply [Cert.Pre_greatest_score_finite.Facts] (s : FVec Ideal Cert.Pre_greatest_score_finite.S4x4x4096x256 .f32)
    (e : Fin 4) (h : Fin 4) (t : Fin 4096) (h1 : test s (ix3 e h t) = 1#1) :
    ∃ M : ℝ, Finset.univ.fold max ⊥ (fun m => s (ix4 e h t m)) = (M : EReal) := by
  have e2 := bound_apply (constant (F := Ideal) Cert.Pre_greatest_score_finite.S_ .f32 0x7F800000#32) e h t
  rw [word, inf] at e2
  obtain ⟨M, hM⟩ := real_of_cmpf _ _ _ e2 h1
  rw [reduce_apply, word, XattnKernelIdeal.Xattn.neg_inf] at hM
  exact ⟨M, hM⟩

/-- The precondition at one head of one token, decoded: its greatest score is a real number. -/
theorem greatest [Cert.Pre_greatest_score_finite.Facts] (wo : FVec Ideal S1x1024x1024 .f32) (g b : FVec Ideal S1x1024 .f32)
    (hp : ∀ i, Cert.Pre_greatest_score_finite.fn (F := Ideal) x kv wq wo g b i = 1#1) (e : Fin 4) (h : Fin 4) (t : Fin 4096) :
    ∃ M : ℝ, Finset.univ.fold max ⊥ (fun m => val_main_v7 (F := Ideal) x kv wq (ix4 e h t m)) = (M : EReal) := by
  have e1 : Cert.Pre_greatest_score_finite.fn (F := Ideal) x kv wq wo g b = test (val_main_v7 (F := Ideal) x kv wq) := by
    unfold Cert.Pre_greatest_score_finite.fn val_main_v7 val_main_v5 val_main_v3 val_main_v2 val_main_v1 val_main_v0
    exact rfl
  exact test_apply _ e h t ((congrFun e1 _).symm.trans (hp _))

/-- Under the precondition the reference's attention is the kernel's heads. -/
theorem heads_eq [Cert.Pre_greatest_score_finite.Facts] (wo : FVec Ideal S1x1024x1024 .f32) (g b : FVec Ideal S1x1024 .f32)
    (hp : ∀ i, Cert.Pre_greatest_score_finite.fn (F := Ideal) x kv wq wo g b i = 1#1) (e : Fin 4) (t : Fin 4096) (n : Fin 1024) :
    val_main_v23 (F := Ideal) x kv wq (ix3 e t n) =
      heads (query (fun k => x (ix3 e t k)) fun k n => wq (ix3 0 k n)) (fun m n => kv (ix3 e m n)) n := by
  obtain ⟨M, hM⟩ := greatest (x := x) (kv := kv) (wq := wq) wo g b hp e ⟨n.val / 256, by omega⟩ t
  simp only [s_apply, q_apply, k_apply] at hM
  unfold heads query
  rw [head_eq _ _ _ _ M hM, o_apply]
  simp only [d_apply, p_apply, c_apply, s_apply, q_apply, k_apply, v_apply]

/-- The reference's result, given what attention gives it. -/
theorem tail_apply (wo : FVec Ideal S1x1024x1024 .f32) (g b : FVec Ideal S1x1024 .f32) (i0 : Fin 16384) (i1 : Fin 1024) :
    val_main_v55 (F := Ideal) x kv wq wo g b (ix2 i0 i1) =
      layerNorm (row (fun k => x (ix3 ⟨i0.val / 4096, by omega⟩ ⟨i0.val % 4096, by omega⟩ k))
        (fun n => val_main_v23 (F := Ideal) x kv wq (ix3 ⟨i0.val / 4096, by omega⟩ ⟨i0.val % 4096, by omega⟩ n))
        fun n j => wo (ix3 0 n j)) (g (ix2 0 i1)) (b (ix2 0 i1)) i1 := by
  pointwise [layerNorm, mean, row,
    val_main_cst_3, val_main_v24, val_main_v25, val_main_v26, val_main_v27, val_main_v28, val_main_cst_4,
    val_main_v29, val_main_v30, val_main_cst_5, val_main_v31, val_main_v32, val_main_v33, val_main_v34,
    val_main_v35, val_main_cst_6, val_main_v36, val_main_v37, val_main_cst_7, val_main_v38, val_main_v39,
    val_main_v40, val_main_v41, val_main_cst_8, val_main_v42, val_main_v43, val_main_v44, val_main_v45,
    val_main_v46, val_main_v47, val_main_v48, val_main_v49, val_main_v50, val_main_v51, val_main_v52, val_main_v53,
    val_main_v54, val_main_v55]

/-- The reference's result is the kernel's function of the arguments, under the precondition. -/
theorem value [Cert.Pre_greatest_score_finite.Facts] (wo : FVec Ideal S1x1024x1024 .f32) (g b : FVec Ideal S1x1024 .f32)
    (hp : ∀ i, Cert.Pre_greatest_score_finite.fn (F := Ideal) x kv wq wo g b i = 1#1) :
    val_main_v55 (F := Ideal) x kv wq wo g b = xattn x kv wq wo g b := by
  funext i
  idx_vars i
  rw [tail_apply]
  simp only [heads_eq (x := x) (kv := kv) (wq := wq) wo g b hp]
  rfl

end Cert.XattnReferenceIdeal.Xattn

namespace Cert.Xattn

/-- Kernel and reference end with the same result array where every row of scores has a finite greatest entry. -/
theorem algebraic : Cert.algebraic_XattnKernelIdeal_XattnReferenceIdeal_pre_greatest_score_finite
    (hXattnKernelIdeal := Cert.XattnKernelIdeal.Gen.facts) (hXattnReferenceIdeal := Cert.XattnReferenceIdeal.Gen.facts)
    (hPre_greatest_score_finite := Cert.Pre_greatest_score_finite.Gen.facts) := by
  pair_intro
  · run_from (Cert.XattnKernelIdeal.Value.run_blocks (F := Ideal) m g)
  · run_from (Cert.XattnReferenceIdeal.Value.run (F := Ideal) m' g')
    have hp := hpre c
    rw [Cert.XattnReferenceIdeal.Read.val_main_v55_eq, Cert.XattnKernelIdeal.Xattn.final]
    simp only [hagree c]
    exact Cert.XattnReferenceIdeal.Xattn.value (x := m (c.tc.loc Cert.XattnKernelIdeal.main_arg0)) (kv := m (c.tc.loc Cert.XattnKernelIdeal.main_arg1))
      (wq := m (c.tc.loc Cert.XattnKernelIdeal.main_arg2)) _ _ _ (congrFun hp)

end Cert.Xattn

end
-- ==== Proof.SsdSpec.lean ====
/-
  The Mamba-2 scan of one sequence as plain formulas over the extended reals: the convolution with its activation, the step
  sizes, and the recurrence over chunks of 128 tokens. The kernel's result and the reference's are both read as these.
-/
module

public import Idealize.ShloMosaic.Lib.Pointwise

@[expose] public section

noncomputable section

open Idealize.ShloMosaic

namespace Cert.Ssd

/-- The head of a column. -/
def hd (col : Fin 1024) : Fin 16 := ⟨col.val / 64, by omega⟩

/-- The group of a column. -/
def gr (col : Fin 1024) : Fin 4 := ⟨col.val / 256, by omega⟩

/-- The column of the activations that column `col` of the result sums. -/
def xC (col : Fin 1024) : Fin 2048 := ⟨col.val, by omega⟩

/-- The columns of group `g`'s projections into the state. -/
def inC (g : Fin 4) (n : Fin 128) : Fin 2048 := ⟨1024 + 128 * g.val + n.val, by omega⟩

/-- The columns of group `g`'s projections out of the state. -/
def outC (g : Fin 4) (n : Fin 128) : Fin 2048 := ⟨1536 + 128 * g.val + n.val, by omega⟩

/-- Column `j` of group `g`. -/
def grC (g : Fin 4) (j : Fin 256) : Fin 1024 := ⟨256 * g.val + j.val, by omega⟩

/-- The sum of a chunk's decay exponents up to token `l`. -/
def cumul (D : Fin 128 → Fin 16 → EReal) (na : Fin 16 → EReal) (l : Fin 128) (h : Fin 16) : EReal :=
  ∑ s : Fin 128, if s ≤ l then D s h * na h else 0

/-- The last token of a chunk. -/
def fin : Fin 128 := 127

/-- The state after a chunk. The time steps `D` make the decay, `E` scale the tokens. -/
def stateOut (A : Fin 128 → Fin 2048 → EReal) (D E : Fin 128 → Fin 16 → EReal) (na : Fin 16 → EReal)
    (S : Fin 128 → Fin 1024 → EReal) (n : Fin 128) (col : Fin 1024) : EReal :=
  Ideal.exp (cumul D na fin (hd col)) * S n col +
    ∑ l, A l (inC (gr col) n) * (A l (xC col) * E l (hd col) * Ideal.exp (cumul D na fin (hd col) - cumul D na l (hd col)))

/-- How far token `s` has decayed at token `l`. -/
def decay (D : Fin 128 → Fin 16 → EReal) (na : Fin 16 → EReal) (l s : Fin 128) (h : Fin 16) : EReal :=
  Ideal.exp (if s ≤ l then cumul D na l h - cumul D na s h else ⊥)

/-- The sum before the norm, gated. -/
def summed (A : Fin 128 → Fin 2048 → EReal) (D E : Fin 128 → Fin 16 → EReal) (na : Fin 16 → EReal)
    (S : Fin 128 → Fin 1024 → EReal) (dk : Fin 1024 → EReal) (z : Fin 128 → Fin 1024 → EReal) (l : Fin 128) (col : Fin 1024) : EReal :=
  ((∑ s, (∑ n, A l (outC (gr col) n) * A s (inC (gr col) n)) * decay D na l s (hd col) * (A s (xC col) * E s (hd col)))
    + (∑ n, A l (outC (gr col) n) * S n col) * Ideal.exp (cumul D na l (hd col)) + dk col * A l (xC col)) * z l col

/-- A row over the root mean square of each group of 256 columns, scaled. -/
def rmsNorm (y : Fin 1024 → EReal) (nw : Fin 1024 → EReal) (col : Fin 1024) : EReal :=
  y col * Ideal.rsqrt (Ideal.div (∑ j, y (grC (gr col) j) * y (grC (gr col) j)) (Ideal.ofBits .f32 0x43800000#32)
    + Ideal.ofBits .f32 0x358637BD#32) * nw col

/-- A sequence's entry `k` tokens before token `t`, zero before the start. -/
def before (u : ℕ → Fin 2048 → EReal) (t k : ℕ) (j : Fin 2048) : EReal := if k ≤ t then u (t - k) j else 0

/-- The convolution over four tokens. -/
def conv (u : ℕ → Fin 2048 → EReal) (w : Fin 4 → Fin 2048 → EReal) (b : Fin 2048 → EReal) (t : ℕ) (j : Fin 2048) : EReal :=
  b j + w 3 j * u t j + w 0 j * before u t 3 j + w 1 j * before u t 2 j + w 2 j * before u t 1 j

/-- The activated convolution. -/
def act (u : ℕ → Fin 2048 → EReal) (w : Fin 4 → Fin 2048 → EReal) (b : Fin 2048 → EReal) (t : ℕ) (j : Fin 2048) : EReal :=
  conv u w b t j * Ideal.logistic (conv u w b t j)

/-- The softplus. -/
def softplus (x : EReal) : EReal := max x 0 + Ideal.log (1 + Ideal.exp (0 - max x (-x)))

/-- The state before chunk `c`. -/
def state (A : ℕ → Fin 2048 → EReal) (D E : ℕ → Fin 16 → EReal) (na : Fin 16 → EReal) : ℕ → Fin 128 → Fin 1024 → EReal
  | 0 => fun _ _ => 0
  | c + 1 => stateOut (fun l => A (128 * c + l.val)) (fun l => D (128 * c + l.val)) (fun l => E (128 * c + l.val)) na (state A D E na c)

/-- The result of token `l` of chunk `c`. -/
def result (A : ℕ → Fin 2048 → EReal) (D E : ℕ → Fin 16 → EReal) (na : Fin 16 → EReal) (dk nw : Fin 1024 → EReal)
    (z : ℕ → Fin 1024 → EReal) (c : ℕ) (l : Fin 128) (col : Fin 1024) : EReal :=
  rmsNorm (summed (fun l => A (128 * c + l.val)) (fun l => D (128 * c + l.val)) (fun l => E (128 * c + l.val)) na (state A D E na c) dk
    (fun l => z (128 * c + l.val)) l) nw col

/-- Token `t` of sequence `e` of an array, with zeros past the end. -/
def row {n : ℕ} (x : Fin 4 → Fin 4096 → Fin n → EReal) (e : Fin 4) (t : ℕ) (j : Fin n) : EReal :=
  if h : t < 4096 then x e ⟨t, h⟩ j else 0

theorem row_of_lt {n : ℕ} (x : Fin 4 → Fin 4096 → Fin n → EReal) (e : Fin 4) (t : ℕ) (j : Fin n) (h : t < 4096) :
    row x e t j = x e ⟨t, h⟩ j := dif_pos h

/-- The layer's arrays, each at its indices: the tokens, the gate, the raw time steps, the convolution's weights and
bias, the time step's bias, the logarithm of the decay rate, the skip weight of every head, the norm's weights. -/
structure Data where
  x : Fin 4 → Fin 4096 → Fin 2048 → EReal
  z : Fin 4 → Fin 4096 → Fin 1024 → EReal
  r : Fin 4 → Fin 4096 → Fin 16 → EReal
  w : Fin 4 → Fin 2048 → EReal
  b : Fin 2048 → EReal
  db : Fin 16 → EReal
  al : Fin 16 → EReal
  dk : Fin 16 → EReal
  nw : Fin 1024 → EReal

namespace Data

/-- The convolved and activated tokens of sequence `e`. -/
def A (p : Data) (e : Fin 4) : ℕ → Fin 2048 → EReal := Cert.Ssd.act (row p.x e) p.w p.b

/-- Its time steps. -/
def D (p : Data) (e : Fin 4) (t : ℕ) (h : Fin 16) : EReal := softplus (row p.r e t h + p.db h)

/-- Minus the decay rates. -/
def na (p : Data) (h : Fin 16) : EReal := 0 - Ideal.exp (p.al h)

/-- The state of sequence `e` before its chunk `c`. -/
def st (p : Data) (e : Fin 4) : ℕ → Fin 128 → Fin 1024 → EReal := state (p.A e) (p.D e) (p.D e) p.na

/-- The result of token `l` of chunk `c` of sequence `e`. -/
def out (p : Data) (e : Fin 4) : ℕ → Fin 128 → Fin 1024 → EReal :=
  result (p.A e) (p.D e) (p.D e) p.na (fun col => p.dk (hd col)) p.nw (row p.z e)

end Data

/-! Sums with coefficients zero and one. -/

theorem sum_eq_bot {ι : Type} [Fintype ι] [DecidableEq ι] (f : ι → EReal) (i : ι) (h : f i = ⊥) : ∑ k, f k = ⊥ := by
  rw [← Finset.add_sum_erase Finset.univ f (Finset.mem_univ i), h, EReal.bot_add]

/-- Adding what rounding to the same value leaves changes no sum of entries below `⊤`. -/
theorem sum_rest {ι : Type} [Fintype ι] [DecidableEq ι] (c x : ι → EReal) (hc : ∀ i, c i = 0 ∨ c i = 1) (hx : ∀ i, x i ≠ ⊤) :
    (∑ i, c i * x i) + (∑ i, c i * (x i - x i)) + (∑ i, c i * ((x i - x i) - (x i - x i))) = ∑ i, c i * x i := by
  by_cases h : ∃ i, c i = 1 ∧ x i = ⊥
  · obtain ⟨i, h1, h2⟩ := h
    rw [sum_eq_bot (fun i => c i * x i) i (by rw [h1, h2, one_mul]), EReal.bot_add, EReal.bot_add]
  · have hz : ∀ i, c i * (x i - x i) = 0 ∧ c i * ((x i - x i) - (x i - x i)) = 0 := by
      intro i
      rcases hc i with h0 | h1
      · rw [h0, zero_mul, zero_mul]; exact ⟨rfl, rfl⟩
      · have hb : x i ≠ ⊥ := fun hb => h ⟨i, h1, hb⟩
        have e : x i - x i = 0 := EReal.sub_self (hx i) hb
        rw [e]; simp
    rw [Finset.sum_congr rfl fun i _ => (hz i).1, Finset.sum_congr rfl fun i _ => (hz i).2]
    simp

/-- A sum with a single coefficient one selects its entry. -/
theorem sum_pick {ι : Type} [Fintype ι] [DecidableEq ι] (c x : ι → EReal) (k : ι) (hc : ∀ i, c i = if i = k then 1 else 0) :
    ∑ i, c i * x i = x k := by
  rw [Finset.sum_congr rfl fun i _ => by rw [hc i, ite_mul, one_mul, zero_mul]]
  simp

theorem sum_ne_top {ι : Type} (s : Finset ι) (f : ι → EReal) (h : ∀ i, f i ≠ ⊤) : ∑ i ∈ s, f i ≠ ⊤ := by
  classical
  induction s using Finset.induction_on with
  | empty => simp
  | insert i s hi ih => rw [Finset.sum_insert hi]; exact EReal.add_ne_top (h i) ih

theorem cumul_ne_top {D : Fin 128 → Fin 16 → EReal} {na : Fin 16 → EReal} (h : ∀ l k, D l k * na k ≠ ⊤) (l : Fin 128) (k : Fin 16) :
    cumul D na l k ≠ ⊤ := by
  refine sum_ne_top _ _ fun s => ?_
  split
  · exact h s k
  · exact EReal.zero_ne_top

/-- The exponential is not negative. -/
theorem exp_nonneg (x : EReal) : 0 ≤ Ideal.exp x := by
  induction x with
  | bot => exact le_rfl
  | top => exact le_top
  | coe r => exact EReal.coe_nonneg.2 (Real.exp_pos r).le

theorem log_nonneg {e : EReal} (h : 0 ≤ e) : 0 ≤ Ideal.log (1 + e) := by
  induction e with
  | bot => exact absurd h (by simp)
  | top => exact le_top
  | coe r =>
    have hr : 0 ≤ r := EReal.coe_nonneg.1 h
    have : (1 : EReal) + (r : EReal) = ((1 + r : ℝ) : EReal) := by norm_cast
    rw [this]
    show 0 ≤ (if 1 + r ≤ 0 then (⊥ : EReal) else ((Real.log (1 + r) : ℝ) : EReal))
    rw [if_neg (by linarith)]
    exact EReal.coe_nonneg.2 (Real.log_nonneg (by linarith))

theorem softplus_nonneg (x : EReal) : 0 ≤ softplus x :=
  add_nonneg (le_max_right _ _) (log_nonneg (exp_nonneg _))

/-- A step size times a rate that is not positive is below `⊤`. -/
theorem mul_neg_ne_top {d a : EReal} (hd : 0 ≤ d) (ha : a ≤ 0) : d * a ≠ ⊤ := by
  have : d * a ≤ 0 := EReal.mul_nonpos_iff.mpr (Or.inl ⟨hd, ha⟩)
  exact ne_of_lt (lt_of_le_of_lt this EReal.zero_lt_top)

namespace Data

theorem D_mul_na_ne_top (p : Data) (e : Fin 4) (t : ℕ) (h : Fin 16) : p.D e t h * p.na h ≠ ⊤ := by
  refine mul_neg_ne_top (softplus_nonneg _) ?_
  unfold na
  rw [zero_sub]
  exact EReal.neg_le_zero.mpr (exp_nonneg _)

end Data

/-! ### What the kernel's product with the matrix of heads makes of an infinite time step

The kernel takes its time steps to the columns as three summands: the value, what rounding leaves of it, and what
rounding leaves of that. Of `⊤` the sum is `⊥`. Both scale the same entries to infinite values, and the norm makes zeros
of every group of columns that has one. -/

/-- The three summands of a value, summed. -/
def turn (v : EReal) : EReal := v + (v - v) + ((v - v) - (v - v))

theorem turn_of_ne_top {v : EReal} (h : v ≠ ⊤) : turn v = v := by
  induction v using EReal.rec with
  | bot => unfold turn; rw [EReal.bot_add, EReal.bot_add]
  | top => exact absurd rfl h
  | coe r => unfold turn; rw [← EReal.coe_sub, sub_self]; simp

def Infinite (x : EReal) : Prop := x = ⊤ ∨ x = ⊥

/-- Equal, or both infinite. -/
def Alike (x y : EReal) : Prop := x = y ∨ (Infinite x ∧ Infinite y)

theorem alike_refl (x : EReal) : Alike x x := Or.inl rfl

theorem alike_turn (v : EReal) : Alike (turn v) v := by
  by_cases h : v = ⊤
  · exact Or.inr ⟨Or.inr (by rw [h]; unfold turn; rw [EReal.sub_top, EReal.add_bot, EReal.bot_add]), Or.inl h⟩
  · exact Or.inl (turn_of_ne_top h)

theorem infinite_mul {a x : EReal} (ha : a ≠ 0) (hx : Infinite x) : Infinite (a * x) := by
  rcases lt_or_gt_of_ne ha with h | h <;> rcases hx with rfl | rfl
  · exact Or.inr (EReal.mul_top_of_neg h)
  · exact Or.inl (EReal.mul_bot_of_neg h)
  · exact Or.inl (EReal.mul_top_of_pos h)
  · exact Or.inr (EReal.mul_bot_of_pos h)

theorem alike_mul (a : EReal) {x y : EReal} (h : Alike x y) : Alike (a * x) (a * y) := by
  rcases h with rfl | ⟨hx, hy⟩
  · exact alike_refl _
  · by_cases ha : a = 0
    · exact Or.inl (by rw [ha, zero_mul, zero_mul])
    · exact Or.inr ⟨infinite_mul ha hx, infinite_mul ha hy⟩

theorem alike_mul' {x y : EReal} (h : Alike x y) (a : EReal) : Alike (x * a) (y * a) := by
  rw [mul_comm x, mul_comm y]; exact alike_mul a h

theorem infinite_add {x : EReal} (y : EReal) (hx : Infinite x) : Infinite (x + y) := by
  rcases hx with rfl | rfl
  · by_cases hy : y = ⊥
    · exact Or.inr (by rw [hy, EReal.add_bot])
    · exact Or.inl (EReal.top_add_of_ne_bot hy)
  · exact Or.inr (EReal.bot_add y)

theorem infinite_add' {y : EReal} (x : EReal) (hy : Infinite y) : Infinite (x + y) := by
  rw [add_comm]; exact infinite_add x hy

theorem alike_add {x y u v : EReal} (h : Alike x y) (k : Alike u v) : Alike (x + u) (y + v) := by
  rcases h with rfl | ⟨hx, hy⟩
  · rcases k with rfl | ⟨hu, hv⟩
    · exact alike_refl _
    · exact Or.inr ⟨infinite_add' _ hu, infinite_add' _ hv⟩
  · exact Or.inr ⟨infinite_add _ hx, infinite_add _ hy⟩

theorem alike_sum {ι : Type} (s : Finset ι) (f g : ι → EReal) (h : ∀ i, Alike (f i) (g i)) : Alike (∑ i ∈ s, f i) (∑ i ∈ s, g i) := by
  classical
  induction s using Finset.induction_on with
  | empty => exact alike_refl _
  | insert i s hi ih => rw [Finset.sum_insert hi, Finset.sum_insert hi]; exact alike_add (h i) ih

theorem alike_stateOut (A : Fin 128 → Fin 2048 → EReal) (D : Fin 128 → Fin 16 → EReal) {E E' : Fin 128 → Fin 16 → EReal}
    (na : Fin 16 → EReal) {S S' : Fin 128 → Fin 1024 → EReal} (hE : ∀ l h, Alike (E l h) (E' l h)) (hS : ∀ n col, Alike (S n col) (S' n col))
    (n : Fin 128) (col : Fin 1024) : Alike (stateOut A D E na S n col) (stateOut A D E' na S' n col) :=
  alike_add (alike_mul _ (hS n col)) (alike_sum _ _ _ fun l => alike_mul _ (alike_mul' (alike_mul _ (hE l (hd col))) _))

theorem alike_summed (A : Fin 128 → Fin 2048 → EReal) (D : Fin 128 → Fin 16 → EReal) {E E' : Fin 128 → Fin 16 → EReal}
    (na : Fin 16 → EReal) {S S' : Fin 128 → Fin 1024 → EReal} (hE : ∀ l h, Alike (E l h) (E' l h)) (hS : ∀ n col, Alike (S n col) (S' n col))
    (dk : Fin 1024 → EReal) (z : Fin 128 → Fin 1024 → EReal) (l : Fin 128) (col : Fin 1024) :
    Alike (summed A D E na S dk z l col) (summed A D E' na S' dk z l col) :=
  alike_mul' (alike_add (alike_add (alike_sum _ _ _ fun s => alike_mul _ (alike_mul _ (hE s (hd col))))
    (alike_mul' (alike_sum _ _ _ fun n => alike_mul _ (hS n col)) _)) (alike_refl _)) _

theorem alike_state (A : ℕ → Fin 2048 → EReal) (D : ℕ → Fin 16 → EReal) {E E' : ℕ → Fin 16 → EReal} (na : Fin 16 → EReal)
    (hE : ∀ t h, Alike (E t h) (E' t h)) : ∀ (c : ℕ) (n : Fin 128) (col : Fin 1024), Alike (state A D E na c n col) (state A D E' na c n col)
  | 0, _, _ => alike_refl _
  | c + 1, n, col => alike_stateOut _ _ na (fun _ _ => hE _ _) (alike_state A D na hE c) n col

theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

theorem square_infinite {x : EReal} (h : Infinite x) : x * x = ⊤ := by
  rcases h with rfl | rfl
  · exact EReal.top_mul_top
  · exact EReal.bot_mul_bot

theorem square_alike {x y : EReal} (h : Alike x y) : x * x = y * y := by
  rcases h with rfl | ⟨hx, hy⟩
  · rfl
  · rw [square_infinite hx, square_infinite hy]

theorem width_eq : Ideal.ofBits .f32 0x43800000#32 = ((256 : ℝ) : EReal) := by
  simp [Ideal.ofBits, Ideal.ieee, -EReal.coe_mul]; norm_num

theorem eps_ne_bot : Ideal.ofBits .f32 0x358637BD#32 ≠ ⊥ := by
  simp [Ideal.ofBits, Ideal.ieee, -EReal.coe_mul]

/-- The reciprocal root of a group's mean square, of the sum of its squares. -/
def root (s : EReal) : EReal := Ideal.rsqrt (Ideal.div s (Ideal.ofBits .f32 0x43800000#32) + Ideal.ofBits .f32 0x358637BD#32)

theorem rmsNorm_eq (y nw : Fin 1024 → EReal) (col : Fin 1024) :
    rmsNorm y nw col = y col * root (∑ j, y (grC (gr col) j) * y (grC (gr col) j)) * nw col := by
  unfold rmsNorm root
  rfl

theorem root_top : root ⊤ = 0 := by
  have hd : Ideal.div ⊤ (Ideal.ofBits .f32 0x43800000#32) = ⊤ := by
    rw [width_eq]
    unfold Ideal.div
    rw [if_neg (by norm_num), ← EReal.coe_inv]
    exact EReal.top_mul_of_pos (by norm_num)
  unfold root
  rw [hd, EReal.top_add_of_ne_bot eps_ne_bot]
  rfl

/-- A group with an infinite entry has the reciprocal root zero. -/
theorem root_zero {ι : Type} [Fintype ι] [DecidableEq ι] (y : ι → EReal) (i : ι) (h : Infinite (y i)) : root (∑ j, y j * y j) = 0 := by
  have hs : ∑ j, y j * y j = ⊤ := by
    rw [← Finset.add_sum_erase Finset.univ _ (Finset.mem_univ i), square_infinite h]
    refine EReal.top_add_of_ne_bot (ne_of_gt (lt_of_lt_of_le EReal.bot_lt_zero ?_))
    exact Finset.sum_nonneg fun j _ => square_nonneg _
  rw [hs, root_top]

theorem rmsNorm_alike {y y' : Fin 1024 → EReal} (h : ∀ col, Alike (y col) (y' col)) (nw : Fin 1024 → EReal) (col : Fin 1024) :
    rmsNorm y nw col = rmsNorm y' nw col := by
  have hc : grC (gr col) ⟨col.val % 256, by omega⟩ = col :=
    Fin.ext (by show 256 * (col.val / 256) + col.val % 256 = col.val; omega)
  rw [rmsNorm_eq, rmsNorm_eq]
  rcases h col with e | ⟨h1, h2⟩
  · rw [e, Finset.sum_congr rfl fun j _ => square_alike (h (grC (gr col) j))]
  · rw [root_zero (fun j => y (grC (gr col) j)) ⟨col.val % 256, by omega⟩ (by rw [hc]; exact h1),
      root_zero (fun j => y' (grC (gr col) j)) ⟨col.val % 256, by omega⟩ (by rw [hc]; exact h2), mul_zero, mul_zero]

namespace Data

/-- The state as the kernel carries it: the time steps that scale the tokens are turned. -/
def kst (p : Data) (e : Fin 4) : ℕ → Fin 128 → Fin 1024 → EReal := state (p.A e) (p.D e) (fun t h => turn (p.D e t h)) p.na

/-- The result as the kernel computes it. -/
def kout (p : Data) (e : Fin 4) : ℕ → Fin 128 → Fin 1024 → EReal :=
  result (p.A e) (p.D e) (fun t h => turn (p.D e t h)) p.na (fun col => p.dk (hd col)) p.nw (row p.z e)

/-- The norm makes the two results the same. -/
theorem kout_eq (p : Data) (e : Fin 4) (c : ℕ) (l : Fin 128) (col : Fin 1024) : p.kout e c l col = p.out e c l col := by
  have hE : ∀ t h, Alike (turn (p.D e t h)) (p.D e t h) := fun t h => alike_turn _
  unfold kout out result
  generalize p.D e = D at hE ⊢
  refine rmsNorm_alike (fun col => ?_) _ _
  exact alike_summed _ _ _ (fun l h => hE (128 * c + l.val) h) (alike_state _ _ _ hE c) _ _ _ _

end Data

end Cert.Ssd

end
-- ==== Proof.SsdReads.lean ====
/-
  The Mamba-2 scan, the reference: what it computes before its loop, read at an index.
-/
module

public import proofs.«01_k».proof.Defs
public import proofs.«01_k».proof.Proof.SsdSpec
public import proofs.«01_k».proof.Proof.Gen.SsdReferenceIdeal.StepRun
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.SsdReferenceIdeal.Ssd

open Cert.SsdReferenceIdeal Cert.SsdReferenceIdeal.Step

theorem foldl_sum {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- A sum over a window one wide on every axis but the last. -/
theorem sum_window (f : (⟨5, ![1, 1, 1, 1, 128]⟩ : Shape).Idx → EReal) : ∑ w, f w = ∑ k : Fin 128, f (ix5 0 0 0 0 k) := by
  refine (Fintype.sum_bijective (fun k : Fin 128 => (ix5 0 0 0 0 k : (⟨5, ![1, 1, 1, 1, 128]⟩ : Shape).Idx)) ⟨fun a b h => ?_, fun w => ?_⟩ _ _ fun k => rfl).symm
  · exact congrFun h 4
  · idx_vars w
    exact ⟨w4, by rw [Subsingleton.elim w0 0, Subsingleton.elim w1 0, Subsingleton.elim w2 0, Subsingleton.elim w3 0]⟩

/-- The running sum of a sequence, over windows that end at the element. -/
theorem sum_shift (x : Fin 128 → EReal) (l : Fin 128) :
    ∑ k : Fin 128, (if h : 127 ≤ l.val + k.val then x ⟨l.val + k.val - 127, by omega⟩ else 0) = ∑ s : Fin 128, if s ≤ l then x s else 0 := by
  rw [← Finset.sum_filter]
  have e : ∀ k : Fin 128, (if h : 127 ≤ l.val + k.val then x ⟨l.val + k.val - 127, by omega⟩ else 0)
      = if 127 ≤ l.val + k.val then x ⟨l.val + k.val - 127, by omega⟩ else 0 := fun k => by split <;> rfl
  simp only [e]
  rw [← Finset.sum_filter]
  refine Finset.sum_bij' (fun k _ => (⟨l.val + k.val - 127, by omega⟩ : Fin 128))
    (fun s hs => (⟨(s.val + 127 - l.val) % 128, by omega⟩ : Fin 128)) ?_ ?_ ?_ ?_ ?_
  · intro k hk
    simp only [Finset.mem_filter, Finset.mem_univ, true_and] at hk ⊢
    exact Fin.mk_le_of_le_val (by omega)
  · intro s hs
    simp only [Finset.mem_filter, Finset.mem_univ, true_and] at hs ⊢
    have : s.val ≤ l.val := hs
    show 127 ≤ l.val + (s.val + 127 - l.val) % 128
    omega
  · intro k hk
    simp only [Finset.mem_filter, Finset.mem_univ, true_and] at hk
    refine Fin.ext ?_
    show (l.val + k.val - 127 + 127 - l.val) % 128 = k.val
    omega
  · intro s hs
    simp only [Finset.mem_filter, Finset.mem_univ, true_and] at hs
    have : s.val ≤ l.val := hs
    refine Fin.ext ?_
    show l.val + (s.val + 127 - l.val) % 128 - 127 = s.val
    omega
  · intro k hk
    rfl

/-- A window sum is the initial value and the sum of the window's elements, those off the array the initial value. -/
theorem window_sum {s t u : Shape} (window strides lo hi : Fin s.rank → Nat) (x : FVec Ideal s .f32) (init : FVec Ideal u .f32)
    (h : s.ReduceWindows window strides lo hi t) (hu : 0 < u.numel) (j : t.Idx) :
    Host.reduceWindowAdd window strides lo hi x init h hu j = init (Shape.Idx.first hu) + ∑ w : (⟨s.rank, window⟩ : Shape).Idx,
      (if hin : ∀ a, lo a ≤ (j (a.cast h.1.symm)).val * strides a + (w a).val ∧ (j (a.cast h.1.symm)).val * strides a + (w a).val - lo a < s.size a then
        x (fun a => ⟨(j (a.cast h.1.symm)).val * strides a + (w a).val - lo a, (hin a).2⟩) else init (Shape.Idx.first hu) : EReal) := by
  refine (foldl_sum _ _).trans (congrArg _ ?_)
  refine Eq.trans (Finset.sum_congr rfl fun k _ => ?_) (Equiv.sum_comp (Shape.rowMajor ⟨s.rank, window⟩).symm _)
  by_cases hin : ∀ a, lo a ≤ (j (a.cast h.1.symm)).val * strides a + ((Shape.rowMajor ⟨s.rank, window⟩).symm k a).val
      ∧ (j (a.cast h.1.symm)).val * strides a + ((Shape.rowMajor ⟨s.rank, window⟩).symm k a).val - lo a < s.size a
  · symm
    refine (dif_pos hin).trans ?_
    symm
    refine (dif_pos hin).trans ?_
    rfl
  · symm
    refine (dif_neg hin).trans ?_
    symm
    refine (dif_neg hin).trans ?_
    rfl

theorem cumsum_apply (x : FVec Ideal S4x4x4x32x128 .f32) (init : FVec Ideal S_ .f32) (h hu) (hi : init (Shape.Idx.first hu) = (0 : EReal))
    (b : Fin 4) (g : Fin 4) (r : Fin 4) (c : Fin 32) (l : Fin 128) :
    Host.reduceWindowAdd (t := S4x4x4x32x128) ![1, 1, 1, 1, 128] ![1, 1, 1, 1, 1] ![0, 0, 0, 0, 127] ![0, 0, 0, 0, 0] x init h hu (ix5 b g r c l)
      = (∑ s : Fin 128, if s ≤ l then x (ix5 b g r c s) else 0 : EReal) := by
  rw [window_sum, hi, zero_add]
  refine (sum_window _).trans ?_
  rw [← sum_shift (fun s => x (ix5 b g r c s))]
  refine Finset.sum_congr rfl fun k _ => ?_
  have hb := b.isLt
  have hg := g.isLt
  have hr := r.isLt
  have hc := c.isLt
  by_cases hk : 127 ≤ l.val + k.val
  · rw [dif_pos hk, dif_pos]
    · refine congrArg x (funext fun a => ?_)
      refine Fin.ext ?_
      fin_cases a
      · show b.val * 1 + 0 - 0 = b.val; omega
      · show g.val * 1 + 0 - 0 = g.val; omega
      · show r.val * 1 + 0 - 0 = r.val; omega
      · show c.val * 1 + 0 - 0 = c.val; omega
      · show l.val * 1 + k.val - 127 = l.val + k.val - 127; omega
    · intro a
      fin_cases a
      · show 0 ≤ b.val * 1 + 0 ∧ b.val * 1 + 0 - 0 < 4; omega
      · show 0 ≤ g.val * 1 + 0 ∧ g.val * 1 + 0 - 0 < 4; omega
      · show 0 ≤ r.val * 1 + 0 ∧ r.val * 1 + 0 - 0 < 4; omega
      · show 0 ≤ c.val * 1 + 0 ∧ c.val * 1 + 0 - 0 < 32; omega
      · show 127 ≤ l.val * 1 + k.val ∧ l.val * 1 + k.val - 127 < 128; omega
  · rw [dif_neg hk, dif_neg]
    intro hin
    have : 127 ≤ l.val * 1 + k.val := (hin 4).1
    omega

section Reads

variable (a0 : FVec Ideal S4x4096x1024 .f32) (a1 : FVec Ideal S4x4096x2048 .f32) (a2 : FVec Ideal S4x4096x16 .f32) (a3 : FVec Ideal S1x4x2048 .f32)
  (a4 : FVec Ideal S1x2048 .f32) (a5 : FVec Ideal S1x16 .f32) (a6 : FVec Ideal S1x16 .f32) (a7 : FVec Ideal S1x16 .f32) (a8 : FVec Ideal S1x1024 .f32)

/-- The arrays, each at its indices. -/
def dat : Cert.Ssd.Data where
  x e t j := a1 (ix3 e t j)
  z e t j := a0 (ix3 e t j)
  r e t j := a2 (ix3 e t j)
  w k j := a3 (ix3 0 k j)
  b j := a4 (ix2 0 j)
  db j := a5 (ix2 0 j)
  al j := a6 (ix2 0 j)
  dk j := a7 (ix2 0 j)
  nw j := a8 (ix2 0 j)

/-- Head `r` of group `g`. -/
def hix (g r : Fin 4) : Fin 16 := ⟨g.val * 4 + r.val, by omega⟩

/-- Column `p` of that head. -/
def cix (g r : Fin 4) (p : Fin 64) : Fin 1024 := ⟨g.val * 256 + r.val * 64 + p.val, by omega⟩

theorem hd_cix (g r : Fin 4) (p : Fin 64) : Cert.Ssd.hd (cix g r p) = hix g r :=
  Fin.ext (by show (g.val * 256 + r.val * 64 + p.val) / 64 = g.val * 4 + r.val; omega)

theorem gr_cix (g r : Fin 4) (p : Fin 64) : Cert.Ssd.gr (cix g r p) = g :=
  Fin.ext (by show (g.val * 256 + r.val * 64 + p.val) / 256 = g.val; omega)

/-- The tokens with three zeros in front. -/
theorem pad_apply (e : Fin 4) (t : Fin 4099) (j : Fin 2048) :
    A_main_v0 (F := Ideal) a0 a1 a2 a3 a4 a5 a6 (ix3 e t j) = if 3 ≤ t.val then Cert.Ssd.row (dat a0 a1 a2 a3 a4 a5 a6 a7 a8).x e (t.val - 3) j else 0 := by
  pointwise [A_main_v0, K_main_call0_v0]
  by_cases h : 3 ≤ t.val
  · have ht : t.val - 3 < 4096 := by omega
    rw [dif_pos ⟨h, ht⟩, if_pos h, Cert.Ssd.row_of_lt _ _ _ _ ht]
    rfl
  · rw [dif_neg (fun hh => h hh.1), if_neg h]
    show (((0#32 : BitVec 32).toInt : ℝ) : EReal) = 0
    simp

theorem tap (k : ℕ) (hk : k ≤ 3) (e : Fin 4) (t : Fin 4096) (s : Fin 4099) (hs : s.val + k = t.val + 3) (j : Fin 2048) :
    A_main_v0 (F := Ideal) a0 a1 a2 a3 a4 a5 a6 (ix3 e s j) = Cert.Ssd.before (Cert.Ssd.row (dat a0 a1 a2 a3 a4 a5 a6 a7 a8).x e) t.val k j := by
  rw [pad_apply _ _ _ _ _ _ _ a7 a8]
  unfold Cert.Ssd.before
  refine if_congr (by omega) ?_ rfl
  rw [show s.val - 3 = t.val - k by omega]

theorem conv_apply (e : Fin 4) (t : Fin 4096) (j : Fin 2048) :
    A_main_v33 (F := Ideal) a0 a1 a2 a3 a4 a5 a6 (ix3 e t j) = Cert.Ssd.conv (Cert.Ssd.row (dat a0 a1 a2 a3 a4 a5 a6 a7 a8).x e) (dat a0 a1 a2 a3 a4 a5 a6 a7 a8).w (dat a0 a1 a2 a3 a4 a5 a6 a7 a8).b t.val j := by
  have h0 := tap a0 a1 a2 a3 a4 a5 a6 a7 a8 3 le_rfl e t ⟨t.val, by omega⟩ rfl j
  have h1 := tap a0 a1 a2 a3 a4 a5 a6 a7 a8 2 (by omega) e t ⟨1 + t.val, by omega⟩ (by show 1 + t.val + 2 = _; omega) j
  have h2 := tap a0 a1 a2 a3 a4 a5 a6 a7 a8 1 (by omega) e t ⟨2 + t.val, by omega⟩ (by show 2 + t.val + 1 = _; omega) j
  have h3 := tap a0 a1 a2 a3 a4 a5 a6 a7 a8 0 (by omega) e t ⟨3 + t.val, by omega⟩ (by show 3 + t.val + 0 = _; omega) j
  have hz : (K_main_cst (F := Ideal) ix0 : EReal) = 0 := by pointwise [K_main_cst]
  pointwise [A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v6, A_main_v5, A_main_v4, A_main_v3, A_main_v2, A_main_v1, K_main_v7]
  rw [h0, h1, h2, h3, hz, zero_add]
  have hu : Cert.Ssd.before (Cert.Ssd.row (dat a0 a1 a2 a3 a4 a5 a6 a7 a8).x e) t.val 0 j = Cert.Ssd.row (dat a0 a1 a2 a3 a4 a5 a6 a7 a8).x e t.val j := by
    unfold Cert.Ssd.before
    rw [if_pos (Nat.zero_le _), Nat.sub_zero]
  rw [hu]
  unfold Cert.Ssd.conv
  show a3 (ix3 0 0 j) * _ + a3 (ix3 0 1 j) * _ + a3 (ix3 0 2 j) * _ + a3 (ix3 0 3 j) * _ + a4 (ix2 0 j)
    = (a4 (ix2 0 j) : EReal) + a3 (ix3 0 3 j) * _ + a3 (ix3 0 0 j) * _ + a3 (ix3 0 1 j) * _ + a3 (ix3 0 2 j) * _
  abel

theorem act_apply (e : Fin 4) (t : Fin 4096) (j : Fin 2048) : A_main_v34 (F := Ideal) a0 a1 a2 a3 a4 a5 a6 (ix3 e t j) = (dat a0 a1 a2 a3 a4 a5 a6 a7 a8).A e t.val j := by
  have h1 : (K_main_call1_cst (F := Ideal) ix0 : EReal) = 1 := by pointwise [K_main_call1_cst]
  pointwise [A_main_v34, A_main_call1_v5, A_main_call1_v3, A_main_call1_v1, A_main_call1_v0, K_main_call1_v4, K_main_call1_v2, K_main_call1_cst_0]
  rw [h1, conv_apply _ _ _ _ _ _ _ a7 a8]
  rfl

theorem step_apply (e : Fin 4) (t : Fin 4096) (h : Fin 16) : A_main_v42 (F := Ideal) a0 a1 a2 a3 a4 a5 a6 (ix3 e t h) = (dat a0 a1 a2 a3 a4 a5 a6 a7 a8).D e t.val h := by
  pointwise [A_main_v42, A_main_call2_v11, A_main_call2_v10, A_main_call2_v9, A_main_call2_v8, A_main_call2_v7, A_main_call2_v6, A_main_call2_v4, A_main_call2_v3, A_main_call2_v1, A_main_v41, A_main_v40, A_main_v39, A_main_v38, K_main_call2_v0, K_main_call2_v2, K_main_call2_v5, K_main_call2_cst]
  rw [if_neg (fun h => h rfl)]
  unfold Cert.Ssd.Data.D Cert.Ssd.softplus
  rw [Cert.Ssd.row_of_lt _ _ _ _ t.isLt, zero_sub]
  rfl

theorem tok_eq (c : Fin 32) (l : Fin 128) (h : c.val * 128 + l.val < 4096) : (⟨c.val * 128 + l.val, h⟩ : Fin 4096).val = 128 * c.val + l.val := by
  show c.val * 128 + l.val = _
  omega

theorem x_apply (b : Fin 4) (c : Fin 32) (l : Fin 128) (g r : Fin 4) (p : Fin 64) :
    A_main_v46 (F := Ideal) a0 a1 a2 a3 a4 a5 a6 (ix6 b c l g r p) = (dat a0 a1 a2 a3 a4 a5 a6 a7 a8).A b (128 * c.val + l.val) (Cert.Ssd.xC (cix g r p)) := by
  pointwise [A_main_v46, A_main_v35]
  rw [act_apply _ _ _ _ _ _ _ a7 a8, tok_eq]
  exact congrArg _ (Fin.ext rfl)

theorem in_apply (b : Fin 4) (c : Fin 32) (l : Fin 128) (g : Fin 4) (n : Fin 128) :
    A_main_v48 (F := Ideal) a0 a1 a2 a3 a4 a5 a6 (ix5 b c l g n) = (dat a0 a1 a2 a3 a4 a5 a6 a7 a8).A b (128 * c.val + l.val) (Cert.Ssd.inC g n) := by
  pointwise [A_main_v48, A_main_v36]
  rw [act_apply _ _ _ _ _ _ _ a7 a8, tok_eq]
  exact congrArg _ (Fin.ext (by show _ = 1024 + 128 * g.val + n.val; simp only []; omega))

theorem out_apply (b : Fin 4) (c : Fin 32) (l : Fin 128) (g : Fin 4) (n : Fin 128) :
    A_main_v49 (F := Ideal) a0 a1 a2 a3 a4 a5 a6 (ix5 b c l g n) = (dat a0 a1 a2 a3 a4 a5 a6 a7 a8).A b (128 * c.val + l.val) (Cert.Ssd.outC g n) := by
  pointwise [A_main_v49, A_main_v37]
  rw [act_apply _ _ _ _ _ _ _ a7 a8, tok_eq]
  exact congrArg _ (Fin.ext (by show _ = 1536 + 128 * g.val + n.val; simp only []; omega))

theorem dt_apply (b : Fin 4) (c : Fin 32) (l : Fin 128) (g r : Fin 4) :
    A_main_v47 (F := Ideal) a0 a1 a2 a3 a4 a5 a6 (ix5 b c l g r) = (dat a0 a1 a2 a3 a4 a5 a6 a7 a8).D b (128 * c.val + l.val) (hix g r) := by
  pointwise [A_main_v47]
  rw [step_apply _ _ _ _ _ _ _ a7 a8, tok_eq]
  rfl

theorem exponent_apply (b : Fin 4) (c : Fin 32) (l : Fin 128) (g r : Fin 4) :
    A_main_v53 (F := Ideal) a0 a1 a2 a3 a4 a5 a6 (ix5 b c l g r) = (dat a0 a1 a2 a3 a4 a5 a6 a7 a8).D b (128 * c.val + l.val) (hix g r) * (dat a0 a1 a2 a3 a4 a5 a6 a7 a8).na (hix g r) := by
  have h := dt_apply a0 a1 a2 a3 a4 a5 a6 a7 a8 b c l g r
  pointwise [A_main_v53, A_main_v52, A_main_v51, A_main_v50, A_main_v45, A_main_v44, A_main_v43]
  rw [h]
  unfold Cert.Ssd.Data.na
  rw [zero_sub]
  rfl

/-- The decay exponents' running sums. -/
theorem cs_apply (b : Fin 4) (g r : Fin 4) (c : Fin 32) (l : Fin 128) :
    A_main_v55 (F := Ideal) a0 a1 a2 a3 a4 a5 a6 (ix5 b g r c l) = Cert.Ssd.cumul (fun l => (dat a0 a1 a2 a3 a4 a5 a6 a7 a8).D b (128 * c.val + l.val)) (dat a0 a1 a2 a3 a4 a5 a6 a7 a8).na l (hix g r) := by
  unfold A_main_v55
  rw [cumsum_apply _ _ _ _ (by pointwise [K_main_call3_call0_v0, K_main_call3_call0_cst])]
  unfold Cert.Ssd.cumul
  refine Finset.sum_congr rfl fun s _ => if_congr Iff.rfl ?_ rfl
  have h := exponent_apply a0 a1 a2 a3 a4 a5 a6 a7 a8 b c s g r
  pointwise [A_main_v54]
  exact h

theorem xdt_apply (b : Fin 4) (c : Fin 32) (l : Fin 128) (g r : Fin 4) (p : Fin 64) :
    A_main_v58 (F := Ideal) a0 a1 a2 a3 a4 a5 a6 (ix6 b c l g r p) = (dat a0 a1 a2 a3 a4 a5 a6 a7 a8).A b (128 * c.val + l.val) (Cert.Ssd.xC (cix g r p)) * (dat a0 a1 a2 a3 a4 a5 a6 a7 a8).D b (128 * c.val + l.val) (hix g r) := by
  have h := dt_apply a0 a1 a2 a3 a4 a5 a6 a7 a8 b c l g r
  have hx := x_apply a0 a1 a2 a3 a4 a5 a6 a7 a8 b c l g r p
  pointwise [A_main_v58, A_main_v57, A_main_v56]
  rw [h, hx]

theorem tri_bit : ∀ l s : Fin 128, (IntOp.cmpi .sge (IntOp.addi (BitVec.ofNat 32 l.val) 0#32) (BitVec.ofNat 32 s.val) = 1#1) ↔ s ≤ l := by
  decide +kernel

end Reads

end Cert.SsdReferenceIdeal.Ssd

end
-- ==== Proof.SsdChunks.lean ====
/-
  The Mamba-2 scan: what the reference's loop is handed, chunk by chunk, and what a trip slices out of it.
-/
module

public import proofs.«01_k».proof.Defs
public import proofs.«01_k».proof.Proof.SsdReads
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.SsdReferenceIdeal.Ssd

open Cert.SsdReferenceIdeal Cert.SsdReferenceIdeal.Step

section Chunks

variable (a0 : FVec Ideal S4x4096x1024 .f32) (a1 : FVec Ideal S4x4096x2048 .f32) (a2 : FVec Ideal S4x4096x16 .f32) (a3 : FVec Ideal S1x4x2048 .f32)
  (a4 : FVec Ideal S1x2048 .f32) (a5 : FVec Ideal S1x16 .f32) (a6 : FVec Ideal S1x16 .f32) (a7 : FVec Ideal S1x16 .f32) (a8 : FVec Ideal S1x1024 .f32)
  (b : Fin 4) (c : Fin 32) (l : Fin 128) (g r : Fin 4) (p : Fin 64) (n : Fin 128)

/-- The activated tokens of a chunk, and their time steps. -/
def rowsA : Fin 128 → Fin 2048 → EReal := fun l => (dat a0 a1 a2 a3 a4 a5 a6 a7 a8).A b (128 * c.val + l.val)
def rowsD : Fin 128 → Fin 16 → EReal := fun l => (dat a0 a1 a2 a3 a4 a5 a6 a7 a8).D b (128 * c.val + l.val)

theorem decay_apply (s : Fin 128) : A_main_v67 (F := Ideal) a0 a1 a2 a3 a4 a5 a6 (ix6 b g r c l s) = Cert.Ssd.decay (rowsD a0 a1 a2 a3 a4 a5 a6 a7 a8 b c) (dat a0 a1 a2 a3 a4 a5 a6 a7 a8).na l s (hix g r) := by
  have h1 := cs_apply a0 a1 a2 a3 a4 a5 a6 a7 a8 b g r c l
  have h2 := cs_apply a0 a1 a2 a3 a4 a5 a6 a7 a8 b g r c s
  have hk : (K_main_v65 (F := Ideal) (ix2 l s) = 1#1) ↔ s ≤ l := by
    pointwise [K_main_v65, K_main_v64, K_main_c_0, K_main_call4_v4, K_main_call4_v2, K_main_call4_v0, K_main_call4_v1, K_main_call4_c, K_main_call4_v3, K_main_call4_v5, K_main_call4_c_0]
    rw [← tri_bit l s]
    exact (by decide : ∀ v : BitVec 1, Scalar.select v 1#1 0#1 = 1#1 ↔ v = 1#1) _
  pointwise [A_main_v67, A_main_v66, A_main_v63, A_main_v62, A_main_v61, A_main_v60, A_main_v59, K_main_call5_v1, K_main_call5_v2, K_main_call5_v0, K_main_cst_1]
  rw [h1, h2]
  unfold Cert.Ssd.decay
  refine congrArg _ (if_congr hk rfl ?_)
  show Ideal.ofBits .f32 0xFF800000#32 = ⊥
  simp [Ideal.ofBits, Ideal.ieee]

theorem pair_apply (s : Fin 128) : A_main_v68 (F := Ideal) a0 a1 a2 a3 a4 a5 a6 (ix5 b c g l s) = ∑ n, (rowsA a0 a1 a2 a3 a4 a5 a6 a7 a8 b c) l (Cert.Ssd.outC g n) * (rowsA a0 a1 a2 a3 a4 a5 a6 a7 a8 b c) s (Cert.Ssd.inC g n) := by
  have h1 := fun n => out_apply a0 a1 a2 a3 a4 a5 a6 a7 a8 b c l g n
  have h2 := fun n => in_apply a0 a1 a2 a3 a4 a5 a6 a7 a8 b c s g n
  pointwise [A_main_v68]
  simp only [h1, h2]
  rfl

theorem diag_apply : A_main_v94 (F := Ideal) a0 a1 a2 a3 a4 a5 a6 (ix6 c b l g r p) = ∑ s, (∑ n, (rowsA a0 a1 a2 a3 a4 a5 a6 a7 a8 b c) l (Cert.Ssd.outC g n) * (rowsA a0 a1 a2 a3 a4 a5 a6 a7 a8 b c) s (Cert.Ssd.inC g n))
    * Cert.Ssd.decay (rowsD a0 a1 a2 a3 a4 a5 a6 a7 a8 b c) (dat a0 a1 a2 a3 a4 a5 a6 a7 a8).na l s (hix g r) * ((rowsA a0 a1 a2 a3 a4 a5 a6 a7 a8 b c) s (Cert.Ssd.xC (cix g r p)) * (rowsD a0 a1 a2 a3 a4 a5 a6 a7 a8 b c) s (hix g r)) := by
  have h1 := fun s => xdt_apply a0 a1 a2 a3 a4 a5 a6 a7 a8 b c s g r p
  have h2 := fun s => pair_apply a0 a1 a2 a3 a4 a5 a6 a7 a8 b c l g s
  have h3 := fun s => decay_apply a0 a1 a2 a3 a4 a5 a6 a7 a8 b c l g r s
  pointwise [A_main_v94, A_main_v74, A_main_v73, A_main_v72, A_main_v71, A_main_v70, A_main_v69]
  refine Finset.sum_congr rfl fun s _ => ?_
  rw [h1, h2, h3]
  exact mul_comm _ _

theorem last_apply : A_main_v90 (F := Ideal) a0 a1 a2 a3 a4 a5 a6 (ix4 c b g r) = Ideal.exp (Cert.Ssd.cumul (rowsD a0 a1 a2 a3 a4 a5 a6 a7 a8 b c) (dat a0 a1 a2 a3 a4 a5 a6 a7 a8).na Cert.Ssd.fin (hix g r)) := by
  have h1 := cs_apply a0 a1 a2 a3 a4 a5 a6 a7 a8 b g r c Cert.Ssd.fin
  pointwise [A_main_v90, A_main_v86, A_main_v85, A_main_v84]
  exact congrArg _ h1

theorem exp_apply : A_main_v93 (F := Ideal) a0 a1 a2 a3 a4 a5 a6 (ix5 c b l g r) = Ideal.exp (Cert.Ssd.cumul (rowsD a0 a1 a2 a3 a4 a5 a6 a7 a8 b c) (dat a0 a1 a2 a3 a4 a5 a6 a7 a8).na l (hix g r)) := by
  have h1 := cs_apply a0 a1 a2 a3 a4 a5 a6 a7 a8 b g r c l
  pointwise [A_main_v93, A_main_v92]
  exact congrArg _ h1

theorem fed_apply : A_main_v89 (F := Ideal) a0 a1 a2 a3 a4 a5 a6 (ix6 c b g r p n) = ∑ l, (rowsA a0 a1 a2 a3 a4 a5 a6 a7 a8 b c) l (Cert.Ssd.inC g n) * ((rowsA a0 a1 a2 a3 a4 a5 a6 a7 a8 b c) l (Cert.Ssd.xC (cix g r p)) * (rowsD a0 a1 a2 a3 a4 a5 a6 a7 a8 b c) l (hix g r)
    * Ideal.exp (Cert.Ssd.cumul (rowsD a0 a1 a2 a3 a4 a5 a6 a7 a8 b c) (dat a0 a1 a2 a3 a4 a5 a6 a7 a8).na Cert.Ssd.fin (hix g r) - Cert.Ssd.cumul (rowsD a0 a1 a2 a3 a4 a5 a6 a7 a8 b c) (dat a0 a1 a2 a3 a4 a5 a6 a7 a8).na l (hix g r))) := by
  have h1 := fun l => xdt_apply a0 a1 a2 a3 a4 a5 a6 a7 a8 b c l g r p
  have h2 := fun l => in_apply a0 a1 a2 a3 a4 a5 a6 a7 a8 b c l g n
  have h3 := fun l => cs_apply a0 a1 a2 a3 a4 a5 a6 a7 a8 b g r c l
  have h4 : A_main_v75 (F := Ideal) a0 a1 a2 a3 a4 a5 a6 (ix5 b g r c 0) = _ := (by pointwise [A_main_v75]; rfl : A_main_v75 (F := Ideal) a0 a1 a2 a3 a4 a5 a6 (ix5 b g r c 0) = A_main_v55 (F := Ideal) a0 a1 a2 a3 a4 a5 a6 (ix5 b g r c Cert.Ssd.fin)).trans (h3 Cert.Ssd.fin)
  pointwise [A_main_v89, A_main_v83, A_main_v82, A_main_v81, A_main_v80, A_main_v79, A_main_v78, A_main_v77, A_main_v76]
  refine Finset.sum_congr rfl fun s _ => ?_
  rw [h1, h2, h3, h4]
  exact mul_comm _ _

theorem outs_apply : A_main_v91 (F := Ideal) a0 a1 a2 a3 a4 a5 a6 (ix5 c b l g n) = (rowsA a0 a1 a2 a3 a4 a5 a6 a7 a8 b c) l (Cert.Ssd.outC g n) := by
  have h := out_apply a0 a1 a2 a3 a4 a5 a6 a7 a8 b c l g n
  pointwise [A_main_v91]
  exact h

theorem xs_apply : A_main_v95 (F := Ideal) a0 a1 a2 a3 a4 a5 a6 (ix6 c b l g r p) = (rowsA a0 a1 a2 a3 a4 a5 a6 a7 a8 b c) l (Cert.Ssd.xC (cix g r p)) := by
  have h := x_apply a0 a1 a2 a3 a4 a5 a6 a7 a8 b c l g r p
  pointwise [A_main_v95]
  exact h

theorem gate_apply : A_main_v97 (F := Ideal) a0 a1 a2 a3 a4 a5 a6 (ix6 c b l g r p) = Cert.Ssd.row (dat a0 a1 a2 a3 a4 a5 a6 a7 a8).z b (128 * c.val + l.val) (cix g r p) := by
  have ht : 128 * c.val + l.val < 4096 := by omega
  rw [Cert.Ssd.row_of_lt _ _ _ _ ht]
  pointwise [A_main_v97, A_main_v96]
  show _ = a0 (ix3 b ⟨128 * c.val + l.val, ht⟩ (cix g r p))
  rw [show (⟨128 * c.val + l.val, ht⟩ : Fin 4096) = ⟨c.val * 128 + l.val, by omega⟩ from Fin.ext (by show 128 * c.val + l.val = c.val * 128 + l.val; omega)]
  rfl

end Chunks

end Cert.SsdReferenceIdeal.Ssd

namespace Cert.SsdReferenceIdeal.Ssd

open Cert.SsdReferenceIdeal Cert.SsdReferenceIdeal.Step

section Slices

variable (s : State Ideal) (c : Fin 32) (b : Fin 4) (l : Fin 128) (g r : Fin 4) (p : Fin 64) (n : Fin 128)

/-- The chunk a trip slices out: the trip's number, within the array. -/
theorem start : ∀ k : Fin 32, (min (max (BitVec.ofNat 32 k.val).toInt 0) ((32 - 1 : Nat) : Int)).toNat = k.val := by decide

theorem slice_0 : b5 c.val s (ix6 0 b g r p n) = s.main_v99_0 (ix6 c b g r p n) := by
  unfold b5 Host.dynamicSlice
  refine congrArg s.main_v99_0 (funext fun a => Fin.ext ?_)
  match a with
  | ⟨0, _⟩ => exact start c
  | ⟨1, _⟩ => exact Nat.zero_add b.val
  | ⟨2, _⟩ => exact Nat.zero_add g.val
  | ⟨3, _⟩ => exact Nat.zero_add r.val
  | ⟨4, _⟩ => exact Nat.zero_add p.val
  | ⟨5, _⟩ => exact Nat.zero_add n.val

theorem slice_1 : b10 c.val s (ix4 0 b g r) = s.main_v99_1 (ix4 c b g r) := by
  unfold b10 Host.dynamicSlice
  refine congrArg s.main_v99_1 (funext fun a => Fin.ext ?_)
  match a with
  | ⟨0, _⟩ => exact start c
  | ⟨1, _⟩ => exact Nat.zero_add b.val
  | ⟨2, _⟩ => exact Nat.zero_add g.val
  | ⟨3, _⟩ => exact Nat.zero_add r.val

theorem slice_2 : b16 c.val s (ix5 0 b l g n) = s.main_v99_2 (ix5 c b l g n) := by
  unfold b16 Host.dynamicSlice
  refine congrArg s.main_v99_2 (funext fun a => Fin.ext ?_)
  match a with
  | ⟨0, _⟩ => exact start c
  | ⟨1, _⟩ => exact Nat.zero_add b.val
  | ⟨2, _⟩ => exact Nat.zero_add l.val
  | ⟨3, _⟩ => exact Nat.zero_add g.val
  | ⟨4, _⟩ => exact Nat.zero_add n.val

theorem slice_3 : b22 c.val s (ix5 0 b l g r) = s.main_v99_3 (ix5 c b l g r) := by
  unfold b22 Host.dynamicSlice
  refine congrArg s.main_v99_3 (funext fun a => Fin.ext ?_)
  match a with
  | ⟨0, _⟩ => exact start c
  | ⟨1, _⟩ => exact Nat.zero_add b.val
  | ⟨2, _⟩ => exact Nat.zero_add l.val
  | ⟨3, _⟩ => exact Nat.zero_add g.val
  | ⟨4, _⟩ => exact Nat.zero_add r.val

theorem slice_4 : b29 c.val s (ix6 0 b l g r p) = s.main_v99_4 (ix6 c b l g r p) := by
  unfold b29 Host.dynamicSlice
  refine congrArg s.main_v99_4 (funext fun a => Fin.ext ?_)
  match a with
  | ⟨0, _⟩ => exact start c
  | ⟨1, _⟩ => exact Nat.zero_add b.val
  | ⟨2, _⟩ => exact Nat.zero_add l.val
  | ⟨3, _⟩ => exact Nat.zero_add g.val
  | ⟨4, _⟩ => exact Nat.zero_add r.val
  | ⟨5, _⟩ => exact Nat.zero_add p.val

theorem slice_5 : b36 c.val s (ix6 0 b l g r p) = s.main_v99_5 (ix6 c b l g r p) := by
  unfold b36 Host.dynamicSlice
  refine congrArg s.main_v99_5 (funext fun a => Fin.ext ?_)
  match a with
  | ⟨0, _⟩ => exact start c
  | ⟨1, _⟩ => exact Nat.zero_add b.val
  | ⟨2, _⟩ => exact Nat.zero_add l.val
  | ⟨3, _⟩ => exact Nat.zero_add g.val
  | ⟨4, _⟩ => exact Nat.zero_add r.val
  | ⟨5, _⟩ => exact Nat.zero_add p.val

theorem slice_6 : b43 c.val s (ix6 0 b l g r p) = s.main_v99_6 (ix6 c b l g r p) := by
  unfold b43 Host.dynamicSlice
  refine congrArg s.main_v99_6 (funext fun a => Fin.ext ?_)
  match a with
  | ⟨0, _⟩ => exact start c
  | ⟨1, _⟩ => exact Nat.zero_add b.val
  | ⟨2, _⟩ => exact Nat.zero_add l.val
  | ⟨3, _⟩ => exact Nat.zero_add g.val
  | ⟨4, _⟩ => exact Nat.zero_add r.val
  | ⟨5, _⟩ => exact Nat.zero_add p.val

theorem slice_7 : b45 (F := Ideal) c.val s (ix1 0) = BitVec.ofNat 32 c.val := by
  have h : b45 (F := Ideal) c.val s (ix1 0) = K_main_v98 (F := Ideal) (ix1 c) := by
    unfold b45 Host.dynamicSlice
    refine congrArg K_main_v98 (funext fun a => Fin.ext ?_)
    match a with
    | ⟨0, _⟩ => exact start c
  rw [h]
  pointwise [K_main_v98]

end Slices

end Cert.SsdReferenceIdeal.Ssd

end
-- ==== Proof.SsdChunk.lean ====
/-
  The Mamba-2 scan: a half block of 128 tokens as the kernel computes it, and that it is the plain formulas of
  `SsdSpec`. The products with matrices of zeros and ones select or sum their entries.
-/
module

public import proofs.«01_k».proof.Defs
public import proofs.«01_k».proof.Proof.SsdSpec
public import proofs.«01_k».proof.Proof.Gen.SsdKernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.SsdKernelIdeal.Ssd

open Cert.SsdKernelIdeal Cert.SsdKernelIdeal.Gen

/-! A half block of 128 tokens, as the kernel computes it. -/

section Stages

/-- Row `l` has a one in column `l + k` and zeros elsewhere. -/
def shift (k : BitVec 32) : FVec Ideal S128x144 .bf16 :=
  truncf .bf16 (sitofp .f32 (extui 32 (cmpi .eq (iota .tc S128x144 32 [1] iota_S128x144_d1_w32)
    (addi (iota .tc S128x144 32 [0] iota_S128x144_d0_w32) (broadcast S128x144 k))) natLt_1_32)) bitsLt_bf16_f32

/-- Token `l` comes no earlier than token `s`. -/
def causal : IVec S128x128 1 :=
  cmpi .sge (iota .tc S128x128 32 [0] iota_S128x128_d0_w32) (iota .tc S128x128 32 [1] iota_S128x128_d1_w32)

/-- The same as ones and zeros. -/
def tri : FVec Ideal S128x128 .bf16 :=
  truncf .bf16 (sitofp .f32 (extui 32 causal natLt_1_32)) bitsLt_bf16_f32

/-- The unit matrix over the heads. -/
def eye : FVec Ideal S16x16 .bf16 :=
  truncf .bf16 (sitofp .f32 (extui 32 (cmpi .eq (iota .tc S16x16 32 [0] iota_S16x16_d0_w32)
    (iota .tc S16x16 32 [1] iota_S16x16_d1_w32)) natLt_1_32)) bitsLt_bf16_f32

/-- A row over 2048 columns, for every token. -/
def rows (w : FVec Ideal S1x2048 .f32) : FVec Ideal S128x2048 .f32 :=
  broadcastTo S128x2048 (shapeCast S1x2048 w shapeCasts_S1x2048_S1x2048) broadcasts_S1x2048_S128x2048

/-- The convolution: the token itself, then the three before it out of the rows `e`, which begin 16 tokens earlier. -/
def conv (e : FVec Ideal S144x2048 .bf16) (u : FVec Ideal S128x2048 .bf16) (w0 w1 w2 w3 b : FVec Ideal S1x2048 .f32) :
    FVec Ideal S128x2048 .f32 :=
  addf (addf (addf (addf (rows b)
      (mulf (rows w3) (extf .f32 (shapeCast S128x2048 u shapeCasts_S128x2048_S128x2048) bitsLt_bf16_f32)))
      (mulf (rows w0) (matmul dot_S128x144_S144x2048_S128x2048_1_0_0_1_n_n none (shift 13#32) e (constant S128x2048 .f32 0x00000000#32))))
      (mulf (rows w1) (matmul dot_S128x144_S144x2048_S128x2048_1_0_0_1_n_n none (shift 14#32) e (constant S128x2048 .f32 0x00000000#32))))
    (mulf (rows w2) (matmul dot_S128x144_S144x2048_S128x2048_1_0_0_1_n_n none (shift 15#32) e (constant S128x2048 .f32 0x00000000#32)))

/-- The activations. -/
def act (e : FVec Ideal S144x2048 .bf16) (u : FVec Ideal S128x2048 .bf16) (w0 w1 w2 w3 b : FVec Ideal S1x2048 .f32) :
    FVec Ideal S128x2048 .f32 :=
  mulf (conv e u w0 w1 w2 w3 b) (logistic (conv e u w0 w1 w2 w3 b))

/-- The part of the activations that is summed over. -/
def xs (a : FVec Ideal S128x2048 .f32) : FVec Ideal S128x1024 .f32 :=
  extractStridedSlice S128x1024 ![0, 0] a slices_S128x2048_o0_0_S128x1024

/-- The step sizes before the softplus. -/
def pre (r : FVec Ideal S128x16 .f32) (b : FVec Ideal S1x16 .f32) : FVec Ideal S128x16 .f32 :=
  addf (shapeCast S128x16 r shapeCasts_S128x16_S128x16)
    (broadcastTo S128x16 (shapeCast S1x16 b shapeCasts_S1x16_S1x16) broadcasts_S1x16_S128x16)

/-- The step sizes. -/
def dt (r : FVec Ideal S128x16 .f32) (b : FVec Ideal S1x16 .f32) : FVec Ideal S128x16 .f32 :=
  addf (maximumf (pre r b) (broadcast S128x16 (Scalar.ofBits .f32 0x00000000#32)))
    (log (addf (broadcast S128x16 (Scalar.ofBits .f32 0x3F800000#32))
      (exp (subf (broadcast S128x16 (Scalar.ofBits .f32 0x00000000#32)) (absf (pre r b))))))

/-- The decay rates. -/
def rate (a : FVec Ideal S1x16 .f32) : FVec Ideal S1x16 .f32 :=
  subf (broadcast S1x16 (Scalar.ofBits .f32 0x00000000#32)) (exp (shapeCast S1x16 a shapeCasts_S1x16_S1x16))

/-- What rounding leaves of `x`. -/
def rest (x : FVec Ideal S128x16 .f32) : FVec Ideal S128x16 .f32 :=
  subf x (extf .f32 (truncf .bf16 x bitsLt_bf16_f32) bitsLt_bf16_f32)

/-- `x` rounded. -/
def cut (x : FVec Ideal S128x16 .f32) : FVec Ideal S128x16 .bf16 := truncf .bf16 x bitsLt_bf16_f32

/-- The running sums of `x` over the tokens. -/
def sums (x : FVec Ideal S128x16 .f32) : FVec Ideal S128x16 .f32 :=
  addf (addf (addf (broadcast S128x16 (Scalar.ofBits .f32 0x00000000#32))
    (matmul dot_S128x128_S128x16_S128x16_1_0_0_1_n_n none tri (cut x) (constant S128x16 .f32 0x00000000#32)))
    (matmul dot_S128x128_S128x16_S128x16_1_0_0_1_n_n none tri (cut (rest x)) (constant S128x16 .f32 0x00000000#32)))
    (matmul dot_S128x128_S128x16_S128x16_1_0_0_1_n_n none tri (cut (rest (rest x))) (constant S128x16 .f32 0x00000000#32))

/-- The heads along the rows. -/
def flip (x : FVec Ideal S128x16 .f32) : FVec Ideal S16x128 .f32 :=
  addf (addf (addf (broadcast S16x128 (Scalar.ofBits .f32 0x00000000#32))
    (matmul dot_S16x16_S128x16_S16x128_1_1_0_0_n_n none eye (cut x) (constant S16x128 .f32 0x00000000#32)))
    (matmul dot_S16x16_S128x16_S16x128_1_1_0_0_n_n none eye (cut (rest x)) (constant S16x128 .f32 0x00000000#32)))
    (matmul dot_S16x16_S128x16_S16x128_1_1_0_0_n_n none eye (cut (rest (rest x))) (constant S16x128 .f32 0x00000000#32))

/-- Every head's value at each of its 64 columns. -/
def spread (x : FVec Ideal S128x16 .f32) (r : FVec Ideal S16x1024 .bf16) : FVec Ideal S128x1024 .f32 :=
  addf (addf (addf (broadcast S128x1024 (Scalar.ofBits .f32 0x00000000#32))
    (matmul dot_S128x16_S16x1024_S128x1024_1_0_0_1_n_n none (cut x)
      (shapeCast S16x1024 r shapeCasts_S16x1024_S16x1024) (constant S128x1024 .f32 0x00000000#32)))
    (matmul dot_S128x16_S16x1024_S128x1024_1_0_0_1_n_n none (cut (rest x))
      (shapeCast S16x1024 r shapeCasts_S16x1024_S16x1024) (constant S128x1024 .f32 0x00000000#32)))
    (matmul dot_S128x16_S16x1024_S128x1024_1_0_0_1_n_n none (cut (rest (rest x)))
      (shapeCast S16x1024 r shapeCasts_S16x1024_S16x1024) (constant S128x1024 .f32 0x00000000#32))

/-- The decay exponents: running sums of step size times rate. -/
def cs (d : FVec Ideal S128x16 .f32) (na : FVec Ideal S1x16 .f32) : FVec Ideal S128x16 .f32 :=
  sums (mulf d (broadcastTo S128x16 na broadcasts_S1x16_S128x16))

/-- The last token's row. -/
def last (x : FVec Ideal S128x1024 .f32) : FVec Ideal S1x1024 .f32 :=
  extractStridedSlice S1x1024 ![127, 0] x slices_S128x1024_o127_0_S1x1024

/-- What each token adds, decayed to the end of the half block; `c` are the decay exponents at the columns. -/
def xend (x c : FVec Ideal S128x1024 .f32) : FVec Ideal S128x1024 .bf16 :=
  truncf .bf16 (mulf x (exp (subf (broadcastTo S128x1024 (last c) broadcasts_S1x1024_S128x1024) c))) bitsLt_bf16_f32

theorem sl_in : ∀ g : Fin 4, S128x2048.Slices ![0, 1024 + 128 * g.val] S128x128 := by decide
theorem sl_out : ∀ g : Fin 4, S128x2048.Slices ![0, 1536 + 128 * g.val] S128x128 := by decide
theorem sl_group : ∀ g : Fin 4, S128x1024.Slices ![0, 256 * g.val] S128x256 := by decide
theorem sl_head : ∀ h : Fin 16, S128x1024.Slices ![0, 64 * h.val] S128x64 := by decide
theorem sl_col : ∀ h : Fin 16, S128x16.Slices ![0, h.val] S128x1 := by decide
theorem sl_row : ∀ h : Fin 16, S16x128.Slices ![h.val, 0] S1x128 := by decide

/-- Group `g`'s projections into the state. -/
def into (a : FVec Ideal S128x2048 .f32) (g : Fin 4) : FVec Ideal S128x128 .bf16 :=
  truncf .bf16 (extractStridedSlice S128x128 ![0, 1024 + 128 * g.val] a (sl_in g)) bitsLt_bf16_f32

/-- Group `g`'s projections out of the state. -/
def outof (a : FVec Ideal S128x2048 .f32) (g : Fin 4) : FVec Ideal S128x128 .bf16 :=
  truncf .bf16 (extractStridedSlice S128x128 ![0, 1536 + 128 * g.val] a (sl_out g)) bitsLt_bf16_f32

/-- Group `g`'s products of the two, for every pair of tokens. -/
def pairs (a : FVec Ideal S128x2048 .f32) (g : Fin 4) : FVec Ideal S128x128 .f32 :=
  matmul dot_S128x128_S128x128_S128x128_1_1_0_0_n_n none (outof a g) (into a g) (constant S128x128 .f32 0x00000000#32)

/-- Group `g`'s part of the state read out. -/
def readOut (a : FVec Ideal S128x2048 .f32) (s : FVec Ideal S128x1024 .f32) (g : Fin 4) : FVec Ideal S128x256 .f32 :=
  matmul dot_S128x128_S128x256_S128x256_1_0_0_1_n_n none (outof a g)
    (extractStridedSlice S128x256 ![0, 256 * g.val] (truncf .bf16 s bitsLt_bf16_f32) (sl_group g)) (constant S128x256 .f32 0x00000000#32)

/-- What group `g` adds to the state. -/
def readIn (a : FVec Ideal S128x2048 .f32) (x : FVec Ideal S128x1024 .bf16) (g : Fin 4) : FVec Ideal S128x256 .f32 :=
  matmul dot_S128x128_S128x256_S128x256_0_0_1_1_n_n none (into a g)
    (extractStridedSlice S128x256 ![0, 256 * g.val] x (sl_group g)) (constant S128x256 .f32 0x00000000#32)

/-- Head `h`'s sum over the half block's own tokens; `p` are its group's products. -/
def own (p : FVec Ideal S128x128 .f32) (c : FVec Ideal S128x16 .f32) (ct : FVec Ideal S16x128 .f32)
    (x : FVec Ideal S128x1024 .bf16) (h : Fin 16) : FVec Ideal S128x64 .f32 :=
  matmul dot_S128x128_S128x64_S128x64_1_0_0_1_n_n none
    (truncf .bf16 (mulf p (exp (select causal
      (subf (broadcastTo S128x128 (extractStridedSlice S128x1 ![0, h.val] c (sl_col h)) broadcasts_S128x1_S128x128)
        (broadcastTo S128x128 (extractStridedSlice S1x128 ![h.val, 0] ct (sl_row h)) broadcasts_S1x128_S128x128))
      (broadcast S128x128 (Named.named κ "mask" 0xF149F2CA#32))))) bitsLt_bf16_f32)
    (extractStridedSlice S128x64 ![0, 64 * h.val] x (sl_head h)) (constant S128x64 .f32 0x00000000#32)

/-- Sixteen heads side by side. -/
def beside16 (f : Fin 16 → FVec Ideal S128x64 .f32) : FVec Ideal S128x1024 .f32 :=
  concatenate S128x1024 1 [⟨S128x64, f 0⟩, ⟨S128x64, f 1⟩, ⟨S128x64, f 2⟩, ⟨S128x64, f 3⟩, ⟨S128x64, f 4⟩, ⟨S128x64, f 5⟩,
    ⟨S128x64, f 6⟩, ⟨S128x64, f 7⟩, ⟨S128x64, f 8⟩, ⟨S128x64, f 9⟩, ⟨S128x64, f 10⟩, ⟨S128x64, f 11⟩, ⟨S128x64, f 12⟩,
    ⟨S128x64, f 13⟩, ⟨S128x64, f 14⟩, ⟨S128x64, f 15⟩]
    concatenates_S128x64_S128x64_S128x64_S128x64_S128x64_S128x64_S128x64_S128x64_S128x64_S128x64_S128x64_S128x64_S128x64_S128x64_S128x64_S128x64_S128x1024_d1

/-- Four groups side by side. -/
def beside4 (f : Fin 4 → FVec Ideal S128x256 .f32) : FVec Ideal S128x1024 .f32 :=
  concatenate S128x1024 1 [⟨S128x256, f 0⟩, ⟨S128x256, f 1⟩, ⟨S128x256, f 2⟩, ⟨S128x256, f 3⟩]
    concatenates_S128x256_S128x256_S128x256_S128x256_S128x1024_d1

/-- A row over 1024 columns, for every token. -/
def rows' (w : FVec Ideal S1x1024 .f32) : FVec Ideal S128x1024 .f32 :=
  broadcastTo S128x1024 (shapeCast S1x1024 w shapeCasts_S1x1024_S1x1024) broadcasts_S1x1024_S128x1024

/-- The sums before the norm, times the gate `z`. -/
def gated (own4 out4 c x : FVec Ideal S128x1024 .f32) (dk : FVec Ideal S1x1024 .f32) (z : FVec Ideal S128x1024 .bf16) :
    FVec Ideal S128x1024 .f32 :=
  mulf (addf (addf own4 (mulf out4 (exp c))) (mulf (rows' dk) x))
    (extf .f32 (shapeCast S128x1024 z shapeCasts_S128x1024_S128x1024) bitsLt_bf16_f32)

/-- Group `g` over its root mean square. -/
def normed (y : FVec Ideal S128x1024 .f32) (g : Fin 4) : FVec Ideal S128x256 .f32 :=
  mulf (extractStridedSlice S128x256 ![0, 256 * g.val] y (sl_group g)) (broadcastTo S128x256 (rsqrt (addf (divf
    (shapeCast S128x1 (multiReduction .add [1] S128 (mulf (extractStridedSlice S128x256 ![0, 256 * g.val] y (sl_group g))
      (extractStridedSlice S128x256 ![0, 256 * g.val] y (sl_group g))) 0x00000000#32 reduces_S128x256_S128 (.inl rfl) rfl) shapeCasts_S128_S128x1)
    (broadcast S128x1 (Scalar.ofBits .f32 0x43800000#32))) (broadcast S128x1 (Scalar.ofBits .f32 0x358637BD#32)))) broadcasts_S128x1_S128x256)

/-- The half block's result. -/
def half (a : FVec Ideal S128x2048 .f32) (d : FVec Ideal S128x16 .f32) (na : FVec Ideal S1x16 .f32) (r : FVec Ideal S16x1024 .bf16)
    (s : FVec Ideal S128x1024 .f32) (dk nw : FVec Ideal S1x1024 .f32) (z : FVec Ideal S128x1024 .bf16) : FVec Ideal S128x1024 .bf16 :=
  truncf .bf16 (mulf (beside4 (normed (gated
      (beside16 fun h => own (pairs a ⟨h.val / 4, by omega⟩) (cs d na) (flip (cs d na)) (truncf .bf16 (mulf (xs a) (spread d r)) bitsLt_bf16_f32) h)
      (beside4 (readOut a s)) (spread (cs d na) r) (xs a) dk z))) (rows' nw)) bitsLt_bf16_f32

/-- The state after the half block. -/
def next (a : FVec Ideal S128x2048 .f32) (d : FVec Ideal S128x16 .f32) (na : FVec Ideal S1x16 .f32) (r : FVec Ideal S16x1024 .bf16)
    (s : FVec Ideal S128x1024 .f32) : FVec Ideal S128x1024 .f32 :=
  addf (mulf (broadcastTo S128x1024 (exp (last (spread (cs d na) r))) broadcasts_S1x1024_S128x1024) s)
    (beside4 (readIn a (xend (mulf (xs a) (spread d r)) (spread (cs d na) r))))

end Stages

section Read

theorem bit (b : BitVec 1) : (FloatOps.sitofp .f32 (BitVec.setWidth 32 b) : Ideal .f32) = (if b = 1#1 then (1 : EReal) else 0) := by
  rcases BitVec.eq_zero_or_eq_one b with rfl | rfl
  · rw [if_neg (by decide)]
    show (((BitVec.setWidth 32 0#1).toInt : ℝ) : EReal) = 0
    rw [show (BitVec.setWidth 32 0#1).toInt = 0 by decide]; simp
  · rw [if_pos rfl]
    show (((BitVec.setWidth 32 1#1).toInt : ℝ) : EReal) = 1
    rw [show (BitVec.setWidth 32 1#1).toInt = 1 by decide]; simp

theorem shift_bit : ∀ (k : Fin 16) (l : Fin 128) (j : Fin 144),
    (IntOp.cmpi .eq (BitVec.ofNat 32 j.val) (IntOp.addi (BitVec.ofNat 32 l.val) (BitVec.ofNat 32 k.val)) = 1#1) ↔ j.val = l.val + k.val := by
  intro k l j
  have hk := k.isLt
  have hl := l.isLt
  have hj := j.isLt
  show BitVec.ofBool (BitVec.ofNat 32 j.val == BitVec.ofNat 32 l.val + BitVec.ofNat 32 k.val) = 1#1 ↔ _
  rw [show ∀ b : Bool, (BitVec.ofBool b = 1#1) ↔ b = true from by decide, beq_iff_eq, ← BitVec.ofNat_add, ← BitVec.toNat_inj,
    BitVec.toNat_ofNat, BitVec.toNat_ofNat, Nat.mod_eq_of_lt (by omega), Nat.mod_eq_of_lt (by omega)]

theorem causal_bit : ∀ (l s : Fin 128),
    (IntOp.cmpi .sge (BitVec.ofNat 32 l.val) (BitVec.ofNat 32 s.val) = 1#1) ↔ s ≤ l := by decide +kernel

theorem eye_bit : ∀ (a b : Fin 16),
    (IntOp.cmpi .eq (BitVec.ofNat 32 a.val) (BitVec.ofNat 32 b.val) = 1#1) ↔ b = a := by decide +kernel

theorem shift_sum (k : Fin 16) (e : FVec Ideal S144x2048 .bf16) (l : Fin 128) (j : Fin 2048) :
    ∑ x : Fin 144, shift (BitVec.ofNat 32 k.val) (ix2 l x) * e (ix2 x j) = e (ix2 ⟨l.val + k.val, by omega⟩ j) := by
  refine Cert.Ssd.sum_pick _ (fun x => e (ix2 x j)) (⟨l.val + k.val, by omega⟩ : Fin 144) fun i => ?_
  pointwise [shift]
  rw [bit]
  refine if_congr ?_ rfl rfl
  rw [shift_bit, Fin.ext_iff]

theorem tri_apply (l s : Fin 128) : tri (ix2 l s) = if s ≤ l then 1 else 0 := by
  pointwise [tri, causal]
  rw [bit]
  exact if_congr (causal_bit l s) rfl rfl

theorem eye_apply (a b : Fin 16) : eye (ix2 a b) = if b = a then 1 else 0 := by
  pointwise [eye]
  rw [bit]
  exact if_congr (eye_bit a b) rfl rfl

theorem act_apply (e : FVec Ideal S144x2048 .bf16) (u : FVec Ideal S128x2048 .bf16) (w0 w1 w2 w3 b : FVec Ideal S1x2048 .f32)
    (l : Fin 128) (j : Fin 2048) (f : EReal)
    (hf : f = b (ix2 0 j) + w3 (ix2 0 j) * u (ix2 l j) + w0 (ix2 0 j) * e (ix2 ⟨l.val + 13, by omega⟩ j)
      + w1 (ix2 0 j) * e (ix2 ⟨l.val + 14, by omega⟩ j) + w2 (ix2 0 j) * e (ix2 ⟨l.val + 15, by omega⟩ j)) :
    act e u w0 w1 w2 w3 b (ix2 l j) = f * Ideal.logistic f := by
  have h0 := shift_sum 13 e l j
  have h1 := shift_sum 14 e l j
  have h2 := shift_sum 15 e l j
  pointwise [act, conv, rows]
  rw [hf]
  refine congrArg (fun x : EReal => x * Ideal.logistic x) ?_
  exact congrArg₂ _ (congrArg₂ _ (congrArg₂ _ rfl (congrArg _ h0)) (congrArg _ h1)) (congrArg _ h2)

variable {x : FVec Ideal S128x16 .f32}

theorem sums_apply (hx : ∀ l h, x (ix2 l h) ≠ ⊤) (l : Fin 128) (h : Fin 16) :
    sums x (ix2 l h) = ∑ s : Fin 128, if s ≤ l then x (ix2 s h) else 0 := by
  pointwise [sums, cut, rest]
  rw [Cert.Ssd.sum_rest (fun s => tri (ix2 l s)) (fun s => x (ix2 s h)) (fun s => ?_) fun s => hx s h]
  · exact Finset.sum_congr rfl fun s _ => by rw [tri_apply, ite_mul, one_mul, zero_mul]
  · rw [tri_apply]; split
    · exact Or.inr rfl
    · exact Or.inl rfl

theorem flip_apply (hx : ∀ l h, x (ix2 l h) ≠ ⊤) (h : Fin 16) (l : Fin 128) : flip x (ix2 h l) = x (ix2 l h) := by
  pointwise [flip, cut, rest]
  rw [Cert.Ssd.sum_rest (fun s => eye (ix2 h s)) (fun s => x (ix2 l s)) (fun s => ?_) fun s => hx l s]
  · exact Cert.Ssd.sum_pick _ (fun s => x (ix2 l s)) h fun s => eye_apply h s
  · rw [eye_apply]; split
    · exact Or.inr rfl
    · exact Or.inl rfl

theorem spread_turn {r : FVec Ideal S16x1024 .bf16}
    (hr : ∀ h col, r (ix2 h col) = if h = Cert.Ssd.hd col then 1 else 0) (l : Fin 128) (col : Fin 1024) :
    spread x r (ix2 l col) = Cert.Ssd.turn (x (ix2 l (Cert.Ssd.hd col))) := by
  pointwise [spread, cut, rest]
  rw [Finset.sum_congr rfl fun h _ => mul_comm (x (ix2 l h)) (r (ix2 h col)),
    Finset.sum_congr rfl fun h _ => mul_comm (x (ix2 l h) - x (ix2 l h)) (r (ix2 h col)),
    Finset.sum_congr rfl fun h _ => mul_comm (x (ix2 l h) - x (ix2 l h) - (x (ix2 l h) - x (ix2 l h))) (r (ix2 h col)),
    Cert.Ssd.sum_pick (fun h => r (ix2 h col)) (fun h => x (ix2 l h)) (Cert.Ssd.hd col) fun h => hr h col,
    Cert.Ssd.sum_pick (fun h => r (ix2 h col)) (fun h => x (ix2 l h) - x (ix2 l h)) (Cert.Ssd.hd col) fun h => hr h col,
    Cert.Ssd.sum_pick (fun h => r (ix2 h col)) (fun h => x (ix2 l h) - x (ix2 l h) - (x (ix2 l h) - x (ix2 l h))) (Cert.Ssd.hd col) fun h => hr h col]
  rfl

theorem spread_apply (hx : ∀ l h, x (ix2 l h) ≠ ⊤) {r : FVec Ideal S16x1024 .bf16}
    (hr : ∀ h col, r (ix2 h col) = if h = Cert.Ssd.hd col then 1 else 0) (l : Fin 128) (col : Fin 1024) :
    spread x r (ix2 l col) = x (ix2 l (Cert.Ssd.hd col)) :=
  (spread_turn hr l col).trans (Cert.Ssd.turn_of_ne_top (hx _ _))

theorem pick {k w : ℕ} (f : Fin k → FVec Ideal ⟨2, ![128, w]⟩ .f32) (l : Fin 128) {g g' : Fin k} {j j' : Fin w}
    (h : g.val = g'.val) (h' : j.val = j'.val) : f g (ix2 l j) = f g' (ix2 l j') := by
  rw [Fin.ext h, Fin.ext h']

theorem beside4_col (f : Fin 4 → FVec Ideal S128x256 .f32) (l : Fin 128) (col : Fin 1024) :
    beside4 f (ix2 l col) = f (Cert.Ssd.gr col) (ix2 l ⟨col.val % 256, by omega⟩) := by
  have hc := col.isLt
  pointwise [beside4]
  split_ifs <;> refine pick f l ?_ ?_ <;> simp only [Cert.Ssd.gr, Fin.isValue, Fin.val_zero, Fin.val_one, Fin.val_two] <;> first | omega | (simp; omega)

/-- Vectors of 64 columns side by side, read `j` columns into vector `k`. -/
theorem cat_eq (l : Fin 128) (col : Fin 1024) : ∀ (fs : List (FVec Ideal S128x64 .f32))
    (hs : ∀ s ∈ (fs.map fun f => (⟨S128x64, f⟩ : (s : Shape) × (s.Idx → Ideal .f32))).map (·.1), s.FitsOff S128x1024 1) (c : ℕ)
    (hc : c < (axisSizes S128x1024 1 (fs.map fun f => (⟨S128x64, f⟩ : (s : Shape) × (s.Idx → Ideal .f32)))).sum) (k : ℕ)
    (hk : k < fs.length) (j : Fin 64), c = 64 * k + j.val →
    concatenateAt S128x1024 1 (ix2 l col) (fs.map fun f => (⟨S128x64, f⟩ : (s : Shape) × (s.Idx → Ideal .f32))) hs c hc = fs[k] (ix2 l j)
  | [], _, _, _, _, hk, _, _ => absurd hk (Nat.not_lt_zero _)
  | [f], hs, c, hc, k, hk, j, e => by
    have hk0 : k = 0 := Nat.lt_one_iff.mp hk
    subst hk0
    show f (Shape.Idx.norm _) = f (ix2 l j)
    rw [Shape.Idx.norm_def]
    refine congrArg f (funext fun b => Fin.ext ?_)
    match b with
    | ⟨0, _⟩ => rfl
    | ⟨1, _⟩ => show c = j.val; omega
  | f :: g :: fs, hs, c, hc, k, hk, j, e => by
    show (if hlt : c < 64 then f (Shape.Idx.norm _) else concatenateAt S128x1024 1 (ix2 l col)
      ((g :: fs).map fun f => (⟨S128x64, f⟩ : (s : Shape) × (s.Idx → Ideal .f32))) _ (c - 64) _) = _
    match k, hk, e with
    | 0, _, e =>
      rw [dif_pos (by omega), Shape.Idx.norm_def]
      refine congrArg f (funext fun b => Fin.ext ?_)
      match b with
      | ⟨0, _⟩ => rfl
      | ⟨1, _⟩ => show c = j.val; omega
    | k + 1, hk, e =>
      rw [dif_neg (by omega)]
      exact cat_eq l col (g :: fs) _ (c - 64) _ k (Nat.lt_of_succ_lt_succ hk) j (by omega)

theorem beside16_col (f : Fin 16 → FVec Ideal S128x64 .f32) (l : Fin 128) (col : Fin 1024) :
    beside16 f (ix2 l col) = f (Cert.Ssd.hd col) (ix2 l ⟨col.val % 64, by omega⟩) := by
  have hc := col.isLt
  refine (concatenate_apply _ _ _ _ _).trans ?_
  refine (cat_eq l col (List.ofFn f) _ _ _ (col.val / 64) (by rw [List.length_ofFn]; omega) ⟨col.val % 64, by omega⟩
    (Nat.div_add_mod col.val 64).symm).trans ?_
  rw [List.getElem_ofFn]
  rfl

end Read

section Formulas

theorem mask_eq : (Named.named κ "mask" 0xF149F2CA#32 : Ideal .f32) = ⊥ := by
  show (κ "mask").getD _ = ⊥
  rw [show κ "mask" = some ⊥ from rfl]
  rfl

variable {a : FVec Ideal S128x2048 .f32} {d : FVec Ideal S128x16 .f32} {na : FVec Ideal S1x16 .f32} {r : FVec Ideal S16x1024 .bf16}
  {s : FVec Ideal S128x1024 .f32} {dk nw : FVec Ideal S1x1024 .f32} {z : FVec Ideal S128x1024 .bf16}

theorem cs_apply (hp : ∀ l h, d (ix2 l h) * na (ix2 0 h) ≠ ⊤) (l : Fin 128) (h : Fin 16) :
    cs d na (ix2 l h) = Cert.Ssd.cumul (fun l h => d (ix2 l h)) (fun h => na (ix2 0 h)) l h := by
  have e : ∀ l h, mulf d (broadcastTo S128x16 na broadcasts_S1x16_S128x16) (ix2 l h) = d (ix2 l h) * na (ix2 0 h) := fun l h => by pointwise
  rw [cs, sums_apply fun l h => by rw [e]; exact hp l h]
  exact Finset.sum_congr rfl fun s _ => by rw [e]

theorem cs_ne_top (hp : ∀ l h, d (ix2 l h) * na (ix2 0 h) ≠ ⊤) (l : Fin 128) (h : Fin 16) : cs d na (ix2 l h) ≠ ⊤ := by
  rw [cs_apply hp]; exact Cert.Ssd.cumul_ne_top hp l h

theorem readIn_apply (x : FVec Ideal S128x1024 .bf16) (n : Fin 128) (col : Fin 1024) :
    readIn a x (Cert.Ssd.gr col) (ix2 n ⟨col.val % 256, by omega⟩) = ∑ l : Fin 128, a (ix2 l (Cert.Ssd.inC (Cert.Ssd.gr col) n)) * x (ix2 l col) := by
  have e : ∀ h, (⟨256 * (Cert.Ssd.gr col).val + col.val % 256, h⟩ : Fin 1024) = col := fun h => Fin.ext (Nat.div_add_mod col.val 256)
  pointwise [readIn, into]
  exact Finset.sum_congr rfl fun l _ => by rw [e]; rfl

theorem readOut_apply (l : Fin 128) (col : Fin 1024) :
    readOut a s (Cert.Ssd.gr col) (ix2 l ⟨col.val % 256, by omega⟩) = ∑ n : Fin 128, a (ix2 l (Cert.Ssd.outC (Cert.Ssd.gr col) n)) * s (ix2 n col) := by
  have e : ∀ h, (⟨256 * (Cert.Ssd.gr col).val + col.val % 256, h⟩ : Fin 1024) = col := fun h => Fin.ext (Nat.div_add_mod col.val 256)
  pointwise [readOut, outof]
  exact Finset.sum_congr rfl fun l _ => by rw [e]; rfl

theorem pairs_apply (g : Fin 4) (l k : Fin 128) :
    pairs a g (ix2 l k) = ∑ n : Fin 128, a (ix2 l (Cert.Ssd.outC g n)) * a (ix2 k (Cert.Ssd.inC g n)) := by
  pointwise [pairs, into, outof]
  rfl

theorem own_apply (p : FVec Ideal S128x128 .f32) (c : FVec Ideal S128x16 .f32) (ct : FVec Ideal S16x128 .f32)
    (x : FVec Ideal S128x1024 .bf16) (l : Fin 128) (col : Fin 1024) :
    own p c ct x (Cert.Ssd.hd col) (ix2 l ⟨col.val % 64, by omega⟩) = ∑ k : Fin 128, p (ix2 l k)
      * Ideal.exp (if k ≤ l then c (ix2 l (Cert.Ssd.hd col)) - ct (ix2 (Cert.Ssd.hd col) k) else ⊥) * x (ix2 k col) := by
  have e : ∀ h, (⟨64 * (Cert.Ssd.hd col).val + col.val % 64, h⟩ : Fin 1024) = col := fun h => Fin.ext (Nat.div_add_mod col.val 64)
  pointwise [own, causal]
  refine Finset.sum_congr rfl fun k _ => ?_
  rw [e, mask_eq]
  refine congrArg (fun v : EReal => p (ix2 l k) * Ideal.exp v * x (ix2 k col)) ?_
  exact if_congr (causal_bit l k) rfl rfl

theorem gated_apply (o4 u4 c x : FVec Ideal S128x1024 .f32) (l : Fin 128) (col : Fin 1024) :
    gated o4 u4 c x dk z (ix2 l col) = (o4 (ix2 l col) + u4 (ix2 l col) * Ideal.exp (c (ix2 l col)) + dk (ix2 0 col) * x (ix2 l col))
      * z (ix2 l col) := by
  pointwise [gated, rows']

theorem normed_apply (y : FVec Ideal S128x1024 .f32) (l : Fin 128) (col : Fin 1024) :
    normed y (Cert.Ssd.gr col) (ix2 l ⟨col.val % 256, by omega⟩) * nw (ix2 0 col) =
      Cert.Ssd.rmsNorm (fun col => y (ix2 l col)) (fun col => nw (ix2 0 col)) col := by
  have e : ∀ h, (⟨256 * (Cert.Ssd.gr col).val + col.val % 256, h⟩ : Fin 1024) = col := fun h => Fin.ext (Nat.div_add_mod col.val 256)
  pointwise [normed]
  rw [e]
  rfl

theorem half_eq (l : Fin 128) (col : Fin 1024) (y : FVec Ideal S128x1024 .f32) :
    truncf .bf16 (mulf (beside4 (normed y)) (rows' nw)) bitsLt_bf16_f32 (ix2 l col) =
      Cert.Ssd.rmsNorm (fun col => y (ix2 l col)) (fun col => nw (ix2 0 col)) col := by
  have h := beside4_col (normed y) l col
  rw [← normed_apply, ← h]
  pointwise [rows']

variable (hp : ∀ l h, d (ix2 l h) * na (ix2 0 h) ≠ ⊤)
  (hr : ∀ h col, r (ix2 h col) = if h = Cert.Ssd.hd col then 1 else 0)

include hp hr in
theorem half_apply (l : Fin 128) (col : Fin 1024) :
    half a d na r s dk nw z (ix2 l col) = Cert.Ssd.rmsNorm (Cert.Ssd.summed (fun l j => a (ix2 l j)) (fun l h => d (ix2 l h))
      (fun l h => Cert.Ssd.turn (d (ix2 l h))) (fun h => na (ix2 0 h)) (fun n col => s (ix2 n col)) (fun col => dk (ix2 0 col)) (fun l col => z (ix2 l col)) l)
      (fun col => nw (ix2 0 col)) col := by
  rw [half, half_eq]
  refine congrArg (fun f => Cert.Ssd.rmsNorm f (fun col => nw (ix2 0 col)) col) (funext fun col => ?_)
  have ex : xs a (ix2 l col) = a (ix2 l (Cert.Ssd.xC col)) := by pointwise [xs]; rfl
  rw [gated_apply, beside16_col, beside4_col, readOut_apply, own_apply, spread_apply (cs_ne_top hp) hr, cs_apply hp, ex, Cert.Ssd.summed]
  refine congrArg (fun v : EReal => (v + _ + _) * _) ?_
  refine Finset.sum_congr rfl fun k _ => ?_
  have eg : (⟨(Cert.Ssd.hd col).val / 4, by omega⟩ : Fin 4) = Cert.Ssd.gr col := Fin.ext (by simp only [Cert.Ssd.hd, Cert.Ssd.gr]; omega)
  have et : truncf .bf16 (mulf (xs a) (spread d r)) bitsLt_bf16_f32 (ix2 k col) = xs a (ix2 k col) * spread d r (ix2 k col) := by pointwise
  have ex' : xs a (ix2 k col) = a (ix2 k (Cert.Ssd.xC col)) := by pointwise [xs]; rfl
  rw [et, ex', spread_turn hr, flip_apply (cs_ne_top hp), cs_apply hp, eg, pairs_apply, Cert.Ssd.decay]

include hp hr in
theorem next_apply (n : Fin 128) (col : Fin 1024) :
    next a d na r s (ix2 n col) = Cert.Ssd.stateOut (fun l j => a (ix2 l j)) (fun l h => d (ix2 l h))
      (fun l h => Cert.Ssd.turn (d (ix2 l h))) (fun h => na (ix2 0 h)) (fun n col => s (ix2 n col)) n col := by
  have h := beside4_col (readIn a (xend (mulf (xs a) (spread d r)) (spread (cs d na) r))) n col
  have e0 : next a d na r s (ix2 n col) = Ideal.exp (spread (cs d na) r (ix2 Cert.Ssd.fin col)) * s (ix2 n col)
      + beside4 (readIn a (xend (mulf (xs a) (spread d r)) (spread (cs d na) r))) (ix2 n col) := by
    pointwise [next, last]
    rfl
  rw [e0, h, readIn_apply, spread_apply (cs_ne_top hp) hr, cs_apply hp, Cert.Ssd.stateOut]
  refine congrArg _ (Finset.sum_congr rfl fun l _ => ?_)
  have ex : xend (mulf (xs a) (spread d r)) (spread (cs d na) r) (ix2 l col) = xs a (ix2 l col) * spread d r (ix2 l col)
      * Ideal.exp (spread (cs d na) r (ix2 Cert.Ssd.fin col) - spread (cs d na) r (ix2 l col)) := by
    pointwise [xend, last]
    rfl
  have ex' : xs a (ix2 l col) = a (ix2 l (Cert.Ssd.xC col)) := by pointwise [xs]; rfl
  rw [ex, ex', spread_turn hr, spread_apply (cs_ne_top hp) hr, spread_apply (cs_ne_top hp) hr, cs_apply hp, cs_apply hp]

end Formulas

end Cert.SsdKernelIdeal.Ssd

end
-- ==== Proof.SsdPoints.lean ====
/-
  The Mamba-2 scan: every grid point of the kernel takes two chunks, the state and the last sixteen tokens carried from
  the point before, and the result array after the run is the formulas of `SsdSpec`, row by row.
-/
module

public import proofs.«01_k».proof.Defs
public import proofs.«01_k».proof.Proof.SsdChunk
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.SsdKernelIdeal.Ssd

open Cert.SsdKernelIdeal Cert.SsdKernelIdeal.Gen

section Loads

variable (m : (ℓ : Loc nD τ sig) → Buf (Elt Ideal) ℓ) (c : Dev nD) (t : Fin cfg0.N)

/-! What the body loads at point `t`. -/

def ldU0 := View.readAt (Elt Ideal) (ms0_0 t).view (Rect.unit (s := S256x2048) ![0, 0] S128x2048.size inb_S256x2048_S128x2048_0_0).toLoadRect ((hs0_0 t).unread (iblk m c 0 t))
def ldU1 := View.readAt (Elt Ideal) (ms0_0 t).view (Rect.unit (s := S256x2048) ![128, 0] S128x2048.size inb_S256x2048_S128x2048_128_0).toLoadRect ((hs0_0 t).unread (iblk m c 0 t))
def ldR0 := View.readAt (Elt Ideal) (ms0_2 t).view (Rect.unit (s := S256x16) ![0, 0] S128x16.size inb_S256x16_S128x16_0_0).toLoadRect ((hs0_2 t).unread (iblk m c 2 t))
def ldR1 := View.readAt (Elt Ideal) (ms0_2 t).view (Rect.unit (s := S256x16) ![128, 0] S128x16.size inb_S256x16_S128x16_128_0).toLoadRect ((hs0_2 t).unread (iblk m c 2 t))
def ldW0 := View.readAt (Elt Ideal) (ms0_3 t).view (Rect.unit (s := S4x2048) ![0, 0] S1x2048.size inb_S4x2048_S1x2048_0_0).toLoadRect ((hs0_3 t).unread (iblk m c 3 t))
def ldW1 := View.readAt (Elt Ideal) (ms0_3 t).view (Rect.unit (s := S4x2048) ![1, 0] S1x2048.size inb_S4x2048_S1x2048_1_0).toLoadRect ((hs0_3 t).unread (iblk m c 3 t))
def ldW2 := View.readAt (Elt Ideal) (ms0_3 t).view (Rect.unit (s := S4x2048) ![2, 0] S1x2048.size inb_S4x2048_S1x2048_2_0).toLoadRect ((hs0_3 t).unread (iblk m c 3 t))
def ldW3 := View.readAt (Elt Ideal) (ms0_3 t).view (Rect.unit (s := S4x2048) ![3, 0] S1x2048.size inb_S4x2048_S1x2048_3_0).toLoadRect ((hs0_3 t).unread (iblk m c 3 t))
def ldB := View.readAt (Elt Ideal) (ms0_4 t).view (Rect.unit (s := S1x2048) ![0, 0] S1x2048.size inb_S1x2048_S1x2048_0_0).toLoadRect ((hs0_4 t).unread (iblk m c 4 t))
def ldD := View.readAt (Elt Ideal) (ms0_5 t).view (Rect.unit (s := S1x16) ![0, 0] S1x16.size inb_S1x16_S1x16_0_0).toLoadRect ((hs0_5 t).unread (iblk m c 5 t))
def ldA := View.readAt (Elt Ideal) (ms0_6 t).view (Rect.unit (s := S1x16) ![0, 0] S1x16.size inb_S1x16_S1x16_0_0).toLoadRect ((hs0_6 t).unread (iblk m c 6 t))
def ldK := View.readAt (Elt Ideal) (ms0_7 t).view (Rect.unit (s := S1x1024) ![0, 0] S1x1024.size inb_S1x1024_S1x1024_0_0).toLoadRect ((hs0_7 t).unread (iblk m c 7 t))
def ldN := View.readAt (Elt Ideal) (ms0_8 t).view (Rect.unit (s := S1x1024) ![0, 0] S1x1024.size inb_S1x1024_S1x1024_0_0).toLoadRect ((hs0_8 t).unread (iblk m c 8 t))
def ldX := View.readAt (Elt Ideal) (ms0_9 t).view (Rect.unit (s := S16x1024) ![0, 0] S16x1024.size inb_S16x1024_S16x1024_0_0).toLoadRect ((hs0_9 t).unread (iblk m c 9 t))
def ldZ0 := View.readAt (Elt Ideal) (ms0_1 t).view (Rect.unit (s := S256x1024) ![0, 0] S128x1024.size inb_S256x1024_S128x1024_0_0).toLoadRect ((hs0_1 t).unread (iblk m c 1 t))
def ldZ1 := View.readAt (Elt Ideal) (ms0_1 t).view (Rect.unit (s := S256x1024) ![128, 0] S128x1024.size inb_S256x1024_S128x1024_128_0).toLoadRect ((hs0_1 t).unread (iblk m c 1 t))

/-- The point's tokens, as stored after the sixteen rows kept from before. -/
def fresh : View.Piece (Elt Ideal) S272x2048 .bf16 :=
  ⟨Rect.unit (s := S272x2048) ![16, 0] S256x2048.size inb_S272x2048_S256x2048_16_0, shapeCast S256x2048 (shapeCast S256x2048
    (View.readAt (Elt Ideal) (ms0_0 t).view (Rect.unit (s := S256x2048) ![0, 0] S256x2048.size inb_S256x2048_S256x2048_0_0).toLoadRect ((hs0_0 t).unread (iblk m c 0 t)))
    shapeCasts_S256x2048_S256x2048) shapeCasts_S256x2048_S256x2048⟩

/-- The rows of the first half block, where `k` are the rows kept. -/
def ext0 (k : Vec Ideal S272x2048 .bf16) :=
  View.readAt (Elt Ideal) scM0_1.view (Rect.unit (s := S272x2048) ![0, 0] S144x2048.size inb_S272x2048_S144x2048_0_0).toLoadRect
    (scM0_1.view.writes (Elt Ideal) ((Memref.isWhole_whole cc0_scratch1).unread k) [fresh m c t])

/-- The rows of the second. -/
def ext1 :=
  scM0_1.view.readCov [fresh m c t] (Rect.unit (s := S272x2048) ![128, 0] S144x2048.size inb_S272x2048_S144x2048_128_0).toLoadRect

end Loads

section Points

variable (m : (ℓ : Loc nD τ sig) → Buf (Elt Ideal) ℓ) (c : Dev nD) (t : Fin cfg0.N)

/-- The activated rows of the first half block. -/
def act0 (e : FVec Ideal S144x2048 .bf16) : FVec Ideal S128x2048 .f32 :=
  act e (ldU0 m c t) (ldW0 m c t) (ldW1 m c t) (ldW2 m c t) (ldW3 m c t) (ldB m c t)

/-- The activated rows of the second. -/
def act1 (e : FVec Ideal S144x2048 .bf16) : FVec Ideal S128x2048 .f32 :=
  act e (ldU1 m c t) (ldW0 m c t) (ldW1 m c t) (ldW2 m c t) (ldW3 m c t) (ldB m c t)

/-- The state after the first half block. -/
def midState (e : FVec Ideal S144x2048 .bf16) (s : FVec Ideal S128x1024 .f32) : FVec Ideal S128x1024 .f32 :=
  next (act0 m c t e) (dt (ldR0 m c t) (ldD m c t)) (rate (ldA m c t)) (ldX m c t) s

/-- The state after the second. -/
def endState (e : FVec Ideal S144x2048 .bf16) (s : FVec Ideal S128x1024 .f32) : FVec Ideal S128x1024 .f32 :=
  next (act1 m c t e) (dt (ldR1 m c t) (ldD m c t)) (rate (ldA m c t)) (ldX m c t) s

/-- The result rows of the first half block. -/
def outRows0 (e : FVec Ideal S144x2048 .bf16) (s : FVec Ideal S128x1024 .f32) : FVec Ideal S128x1024 .bf16 :=
  half (act0 m c t e) (dt (ldR0 m c t) (ldD m c t)) (rate (ldA m c t)) (ldX m c t) s (ldK m c t) (ldN m c t) (ldZ0 m c t)

/-- The result rows of the second. -/
def outRows1 (e : FVec Ideal S144x2048 .bf16) (s : FVec Ideal S128x1024 .f32) : FVec Ideal S128x1024 .bf16 :=
  half (act1 m c t e) (dt (ldR1 m c t) (ldD m c t)) (rate (ldA m c t)) (ldX m c t) s (ldK m c t) (ldN m c t) (ldZ1 m c t)

/-- The state kept from the point before, as the body loads it. -/
def kept (s : Vec Ideal S128x1024 .f32) :=
  View.readAt (Elt Ideal) scM0_0.view (Rect.unit (s := S128x1024) ![0, 0] S128x1024.size inb_S128x1024_S128x1024_0_0).toLoadRect ((Memref.isWhole_whole cc0_scratch0).unread s)

/-- The state at the start of a sequence, as the body loads it. -/
def blank :=
  scM0_0.view.readCov (Val := Elt Ideal) [⟨Rect.unit (s := S128x1024) ![0, 0] S128x1024.size inb_S128x1024_S128x1024_0_0,
    shapeCast S128x1024 (broadcast S128x1024 (FloatOps.ofBits (F := Ideal) FTy.f32 0#32)) shapeCasts_S128x1024_S128x1024⟩]
    (Rect.unit (s := S128x1024) ![0, 0] S128x1024.size inb_S128x1024_S128x1024_0_0).toLoadRect

/-- The rows of the first half block at the start of a sequence. -/
def extZ :=
  scM0_1.view.readCov (Val := Elt Ideal) [fresh m c t, ⟨Rect.unit (s := S272x2048) ![0, 0] S16x2048.size inb_S272x2048_S16x2048_0_0,
    shapeCast S16x2048 (broadcast S16x2048 (FloatOps.ofBits (F := Ideal) FTy.bf16 0#16)) shapeCasts_S16x2048_S16x2048⟩]
    (Rect.unit (s := S272x2048) ![0, 0] S144x2048.size inb_S272x2048_S144x2048_0_0).toLoadRect

/-- The rows of the second half block there. -/
def extO :=
  scM0_1.view.readCov (Val := Elt Ideal) [fresh m c t, ⟨Rect.unit (s := S272x2048) ![0, 0] S16x2048.size inb_S272x2048_S16x2048_0_0,
    shapeCast S16x2048 (broadcast S16x2048 (FloatOps.ofBits (F := Ideal) FTy.bf16 0#16)) shapeCasts_S16x2048_S16x2048⟩]
    (Rect.unit (s := S272x2048) ![128, 0] S144x2048.size inb_S272x2048_S144x2048_128_0).toLoadRect

/-- The two stores of a point's result. -/
def stores (a b : FVec Ideal S128x1024 .bf16) : List (View.Piece (Elt Ideal) S256x1024 .bf16) :=
  [⟨Rect.unit (s := S256x1024) ![128, 0] S128x1024.size inb_S256x1024_S128x1024_128_0, b⟩,
   ⟨Rect.unit (s := S256x1024) ![0, 0] S128x1024.size inb_S256x1024_S128x1024_0_0, a⟩]

/-- The store that clears the state. -/
def clearS : View.Piece (Elt Ideal) S128x1024 .f32 := ⟨Rect.unit (s := S128x1024) ![0, 0] S128x1024.size inb_S128x1024_S128x1024_0_0,
  shapeCast S128x1024 (broadcast S128x1024 (FloatOps.ofBits (F := Ideal) FTy.f32 0#32)) shapeCasts_S128x1024_S128x1024⟩

/-- The store of a point's state, over the stores `l` before it. -/
def storeS (s : FVec Ideal S128x1024 .f32) (l : List (View.Piece (Elt Ideal) S128x1024 .f32)) : List (View.Piece (Elt Ideal) S128x1024 .f32) :=
  ⟨Rect.unit (s := S128x1024) ![0, 0] S128x1024.size inb_S128x1024_S128x1024_0_0, shapeCast S128x1024 s shapeCasts_S128x1024_S128x1024⟩ :: l

variable {m c t}

set_option maxHeartbeats 1500000 in
theorem out_B (h : ¬ t.val % 16 = 0) (hp : t.val - 1 < cfg0.N) :
    (outsAt0 m c t.val t.isLt).1 = VO0_10.read (Elt Ideal) (VO0_10.writes (Elt Ideal) VO0_10.junk
      (stores (outRows0 m c t (ext0 m c t (outsAt0 m c (t.val - 1) hp).2.2) (kept (outsAt0 m c (t.val - 1) hp).2.1))
        (outRows1 m c t (ext1 m c t) (midState m c t (ext0 m c t (outsAt0 m c (t.val - 1) hp).2.2) (kept (outsAt0 m c (t.val - 1) hp).2.1))))) := by
  rw [outsAt0_B m c t h]
  frame_open
  rfl

set_option maxHeartbeats 1500000 in
theorem state_B (h : ¬ t.val % 16 = 0) (hp : t.val - 1 < cfg0.N) :
    (outsAt0 m c t.val t.isLt).2.1 = VS0_0.read (Elt Ideal) (VS0_0.writes (Elt Ideal) VS0_0.junk
      (storeS (endState m c t (ext1 m c t) (midState m c t (ext0 m c t (outsAt0 m c (t.val - 1) hp).2.2) (kept (outsAt0 m c (t.val - 1) hp).2.1))) [])) := by
  rw [outsAt0_B m c t h]
  frame_open
  rfl

set_option maxHeartbeats 1500000 in
theorem out_A (h : t.val % 16 = 0) :
    (outsAt0 m c t.val t.isLt).1 = VO0_10.read (Elt Ideal) (VO0_10.writes (Elt Ideal) VO0_10.junk
      (stores (outRows0 m c t (extZ m c t) blank) (outRows1 m c t (extO m c t) (midState m c t (extZ m c t) blank)))) := by
  rw [outsAt0_A m c t h]
  frame_open
  rfl

set_option maxHeartbeats 1500000 in
theorem state_A (h : t.val % 16 = 0) :
    (outsAt0 m c t.val t.isLt).2.1 = VS0_0.read (Elt Ideal) (VS0_0.writes (Elt Ideal) VS0_0.junk
      (storeS (endState m c t (extO m c t) (midState m c t (extZ m c t) blank)) [clearS])) := by
  rw [outsAt0_A m c t h]
  frame_open
  rfl

end Points

section Readings

variable (m : (ℓ : Loc nD τ sig) → Buf (Elt Ideal) ℓ) (c : Dev nD) (t : Fin cfg0.N)

/-- A load of rows `o` on of a block reads the block there. -/
theorem ld_rows {R W C : ℕ} {e : EltTy} (x : (⟨2, ![R, C]⟩ : Shape).Idx → Elt Ideal e) (o : ℕ)
    (inb : ∀ a, ![o, 0] a + ![W, C] a ≤ (⟨2, ![R, C]⟩ : Shape).size a) (l : Fin W) (k : Fin C) (h : o + l.val < R) :
    View.ld x (Rect.unit (s := ⟨2, ![R, C]⟩) ![o, 0] ![W, C] inb) (ix2 l k) = x (ix2 ⟨o + l.val, h⟩ k) :=
  View.ld_unit_apply_of _ _ _ _ _ (ix2 ⟨o + l.val, h⟩ k) (Fin.forall_fin_two.mpr ⟨rfl, (Nat.zero_add _).symm⟩)

theorem ldU0_apply (l : Fin 128) (k : Fin 2048) : ldU0 m c t (ix2 l k) = iblk m c 0 t (ix2 ⟨0 + l.val, by omega⟩ k) := by
  unfold ldU0
  rw [View.readAt_eq_ld, Memref.IsWhole.read_unread]
  exact ld_rows _ 0 _ l k (by omega)

theorem ldU1_apply (l : Fin 128) (k : Fin 2048) : ldU1 m c t (ix2 l k) = iblk m c 0 t (ix2 ⟨128 + l.val, by omega⟩ k) := by
  unfold ldU1
  rw [View.readAt_eq_ld, Memref.IsWhole.read_unread]
  exact ld_rows _ 128 _ l k (by omega)

theorem ldR0_apply (l : Fin 128) (k : Fin 16) : ldR0 m c t (ix2 l k) = iblk m c 2 t (ix2 ⟨0 + l.val, by omega⟩ k) := by
  unfold ldR0
  rw [View.readAt_eq_ld, Memref.IsWhole.read_unread]
  exact ld_rows _ 0 _ l k (by omega)

theorem ldR1_apply (l : Fin 128) (k : Fin 16) : ldR1 m c t (ix2 l k) = iblk m c 2 t (ix2 ⟨128 + l.val, by omega⟩ k) := by
  unfold ldR1
  rw [View.readAt_eq_ld, Memref.IsWhole.read_unread]
  exact ld_rows _ 128 _ l k (by omega)

theorem ldZ0_apply (l : Fin 128) (k : Fin 1024) : ldZ0 m c t (ix2 l k) = iblk m c 1 t (ix2 ⟨0 + l.val, by omega⟩ k) := by
  unfold ldZ0
  rw [View.readAt_eq_ld, Memref.IsWhole.read_unread]
  exact ld_rows _ 0 _ l k (by omega)

theorem ldZ1_apply (l : Fin 128) (k : Fin 1024) : ldZ1 m c t (ix2 l k) = iblk m c 1 t (ix2 ⟨128 + l.val, by omega⟩ k) := by
  unfold ldZ1
  rw [View.readAt_eq_ld, Memref.IsWhole.read_unread]
  exact ld_rows _ 128 _ l k (by omega)

theorem ldW0_apply (l : Fin 1) (k : Fin 2048) : ldW0 m c t (ix2 l k) = iblk m c 3 t (ix2 ⟨0 + l.val, by omega⟩ k) := by
  unfold ldW0
  rw [View.readAt_eq_ld, Memref.IsWhole.read_unread]
  exact ld_rows _ 0 _ l k (by omega)

theorem ldW1_apply (l : Fin 1) (k : Fin 2048) : ldW1 m c t (ix2 l k) = iblk m c 3 t (ix2 ⟨1 + l.val, by omega⟩ k) := by
  unfold ldW1
  rw [View.readAt_eq_ld, Memref.IsWhole.read_unread]
  exact ld_rows _ 1 _ l k (by omega)

theorem ldW2_apply (l : Fin 1) (k : Fin 2048) : ldW2 m c t (ix2 l k) = iblk m c 3 t (ix2 ⟨2 + l.val, by omega⟩ k) := by
  unfold ldW2
  rw [View.readAt_eq_ld, Memref.IsWhole.read_unread]
  exact ld_rows _ 2 _ l k (by omega)

theorem ldW3_apply (l : Fin 1) (k : Fin 2048) : ldW3 m c t (ix2 l k) = iblk m c 3 t (ix2 ⟨3 + l.val, by omega⟩ k) := by
  unfold ldW3
  rw [View.readAt_eq_ld, Memref.IsWhole.read_unread]
  exact ld_rows _ 3 _ l k (by omega)

theorem ldB_apply (l : Fin 1) (k : Fin 2048) : ldB m c t (ix2 l k) = iblk m c 4 t (ix2 ⟨0 + l.val, by omega⟩ k) := by
  unfold ldB
  rw [View.readAt_eq_ld, Memref.IsWhole.read_unread]
  exact ld_rows _ 0 _ l k (by omega)

theorem ldD_apply (l : Fin 1) (k : Fin 16) : ldD m c t (ix2 l k) = iblk m c 5 t (ix2 ⟨0 + l.val, by omega⟩ k) := by
  unfold ldD
  rw [View.readAt_eq_ld, Memref.IsWhole.read_unread]
  exact ld_rows _ 0 _ l k (by omega)

theorem ldA_apply (l : Fin 1) (k : Fin 16) : ldA m c t (ix2 l k) = iblk m c 6 t (ix2 ⟨0 + l.val, by omega⟩ k) := by
  unfold ldA
  rw [View.readAt_eq_ld, Memref.IsWhole.read_unread]
  exact ld_rows _ 0 _ l k (by omega)

theorem ldK_apply (l : Fin 1) (k : Fin 1024) : ldK m c t (ix2 l k) = iblk m c 7 t (ix2 ⟨0 + l.val, by omega⟩ k) := by
  unfold ldK
  rw [View.readAt_eq_ld, Memref.IsWhole.read_unread]
  exact ld_rows _ 0 _ l k (by omega)

theorem ldN_apply (l : Fin 1) (k : Fin 1024) : ldN m c t (ix2 l k) = iblk m c 8 t (ix2 ⟨0 + l.val, by omega⟩ k) := by
  unfold ldN
  rw [View.readAt_eq_ld, Memref.IsWhole.read_unread]
  exact ld_rows _ 0 _ l k (by omega)

theorem ldX_apply (l : Fin 16) (k : Fin 1024) : ldX m c t (ix2 l k) = iblk m c 9 t (ix2 ⟨0 + l.val, by omega⟩ k) := by
  unfold ldX
  rw [View.readAt_eq_ld, Memref.IsWhole.read_unread]
  exact ld_rows _ 0 _ l k (by omega)

/-- The blocks of a point: 256 tokens of the tokens' arrays, everything of the others. -/
theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = t.val ∧ win0_10.index t 1 = 0) := by decide +kernel

/-- The arrays the launch is given. -/
def data (m : (ℓ : Loc nD τ sig) → Buf (Elt Ideal) ℓ) (c : Dev nD) : Cert.Ssd.Data where
  x e t j := m ((c : Thread nD τ).loc main_arg1) (ix3 e t j)
  z e t j := m ((c : Thread nD τ).loc main_arg0) (ix3 e t j)
  r e t j := m ((c : Thread nD τ).loc main_arg2) (ix3 e t j)
  w k j := m ((c : Thread nD τ).loc main_arg3) (ix3 0 k j)
  b j := m ((c : Thread nD τ).loc main_arg4) (ix2 0 j)
  db j := m ((c : Thread nD τ).loc main_arg5) (ix2 0 j)
  al j := m ((c : Thread nD τ).loc main_arg6) (ix2 0 j)
  dk j := m ((c : Thread nD τ).loc main_arg7) (ix2 0 j)
  nw j := m ((c : Thread nD τ).loc main_arg8) (ix2 0 j)

theorem lt_N : t.val < 64 := lt_of_lt_of_eq t.isLt N_0

/-- The sequence of a point. -/
def seq (t : Fin cfg0.N) : Fin 4 := ⟨t.val / 16, by have := lt_N t; omega⟩

/-- The first token of a point in its sequence. -/
def base (t : Fin cfg0.N) : ℕ := 256 * (t.val % 16)

theorem base_lt (y : Fin 256) : base t + y.val < 4096 := by
  have := lt_N t
  unfold base
  omega

theorem tok_div (y : Fin 256) (h : (t.val * 256 + y.val) / 4096 < 4) : (⟨(t.val * 256 + y.val) / 4096, h⟩ : Fin 4) = seq t := by
  have := lt_N t
  refine Fin.ext ?_
  show (t.val * 256 + y.val) / 4096 = t.val / 16
  omega

theorem tok_mod (y : Fin 256) (h : (t.val * 256 + y.val) % 4096 < 4096) :
    (⟨(t.val * 256 + y.val) % 4096, h⟩ : Fin 4096) = ⟨base t + y.val, base_lt t y⟩ := by
  have := lt_N t
  refine Fin.ext ?_
  show (t.val * 256 + y.val) % 4096 = 256 * (t.val % 16) + y.val
  omega

theorem blk_x (y : Fin 256) (j : Fin 2048) : iblk m c 0 t (ix2 y j) = Cert.Ssd.row (data m c).x (seq t) (base t + y.val) j := by
  have hN := lt_N t
  rw [Cert.Ssd.row_of_lt _ _ _ _ (base_lt t y), ← tok_mod t y (by omega), ← tok_div t y (by omega)]
  show _ = m ((c : Thread nD τ).loc main_arg1) (ix3 _ _ j)
  blk_point [iblk, V, idx t]

theorem blk_z (y : Fin 256) (j : Fin 1024) : iblk m c 1 t (ix2 y j) = Cert.Ssd.row (data m c).z (seq t) (base t + y.val) j := by
  have hN := lt_N t
  rw [Cert.Ssd.row_of_lt _ _ _ _ (base_lt t y), ← tok_mod t y (by omega), ← tok_div t y (by omega)]
  show _ = m ((c : Thread nD τ).loc main_arg0) (ix3 _ _ j)
  blk_point [iblk, V, idx t]

theorem blk_r (y : Fin 256) (j : Fin 16) : iblk m c 2 t (ix2 y j) = Cert.Ssd.row (data m c).r (seq t) (base t + y.val) j := by
  have hN := lt_N t
  rw [Cert.Ssd.row_of_lt _ _ _ _ (base_lt t y), ← tok_mod t y (by omega), ← tok_div t y (by omega)]
  show _ = m ((c : Thread nD τ).loc main_arg2) (ix3 _ _ j)
  blk_point [iblk, V, idx t]

theorem blk_w (k : Fin 4) (j : Fin 2048) : iblk m c 3 t (ix2 k j) = (data m c).w k j := by
  show _ = m ((c : Thread nD τ).loc main_arg3) (ix3 0 k j)
  blk_point [iblk, V, idx t]

theorem blk_b (j : Fin 2048) : iblk m c 4 t (ix2 0 j) = (data m c).b j := by
  show _ = m ((c : Thread nD τ).loc main_arg4) (ix2 0 j)
  blk_point [iblk, V, idx t]

theorem blk_db (j : Fin 16) : iblk m c 5 t (ix2 0 j) = (data m c).db j := by
  show _ = m ((c : Thread nD τ).loc main_arg5) (ix2 0 j)
  blk_point [iblk, V, idx t]

theorem blk_al (j : Fin 16) : iblk m c 6 t (ix2 0 j) = (data m c).al j := by
  show _ = m ((c : Thread nD τ).loc main_arg6) (ix2 0 j)
  blk_point [iblk, V, idx t]

theorem blk_nw (j : Fin 1024) : iblk m c 8 t (ix2 0 j) = (data m c).nw j := by
  show _ = m ((c : Thread nD τ).loc main_arg8) (ix2 0 j)
  blk_point [iblk, V, idx t]

theorem blk_dk (j : Fin 1024) : iblk m c 7 t (ix2 0 j) = (data m c).dk (Cert.Ssd.hd j) := by
  show _ = m ((c : Thread nD τ).loc main_arg7) (ix2 0 (Cert.Ssd.hd j))
  blk_point [iblk, V, idx t, Cert.Ssd.hd]

end Readings

variable (m : (ℓ : Loc nD τ sig) → Buf (Elt Ideal) ℓ) (c : Dev nD) (t : Fin cfg0.N)

theorem ubit (b : BitVec 1) : (FloatOps.uitofp .bf16 b : Ideal .bf16) = (if b = 1#1 then (1 : EReal) else 0) := by
  rcases BitVec.eq_zero_or_eq_one b with rfl | rfl
  · rw [if_neg (by decide)]
    show (((0#1).toNat : ℝ) : EReal) = 0
    simp
  · rw [if_pos rfl]
    show (((1#1).toNat : ℝ) : EReal) = 1
    simp

theorem head_bit : ∀ a b : Fin 16, (IntOp.cmpi .eq (IntOp.addi (BitVec.ofNat 32 a.val) 0#32) (BitVec.ofNat 32 b.val) = 1#1) ↔ a = b := by
  decide +kernel

theorem blk_e (h : Fin 16) (j : Fin 1024) : iblk m c 9 t (ix2 h j) = (if h = Cert.Ssd.hd j then 1 else 0 : EReal) := by
  generalize hv : (if h = Cert.Ssd.hd j then 1 else 0 : EReal) = v
  blk_simp [iblk, V, idx t]
  entry_read
  pointwise []
  have he : ((View.whole main_v7).slice (win0_9.rect t)).emb (ix2 h j) = ix2 h j := by
    blk_ext [idx t]
  rw [he, ← hv]
  exact (ubit _).trans (if_congr (head_bit h (Cert.Ssd.hd j)) rfl rfl)

theorem pre_apply (r b) (l : Fin 128) (h : Fin 16) : pre r b (ix2 l h) = r (ix2 l h) + b (ix2 0 h) := by
  pointwise [pre]
theorem dt_apply (r b) (l : Fin 128) (h : Fin 16) : dt r b (ix2 l h) = Cert.Ssd.softplus (r (ix2 l h) + b (ix2 0 h)) := by
  rw [← pre_apply]
  unfold Cert.Ssd.softplus
  pointwise [dt]
  rfl
theorem rate_apply (a) (h : Fin 16) : rate a (ix2 0 h) = 0 - Ideal.exp (a (ix2 0 h)) := by
  pointwise [rate]
theorem kept_apply (s) : kept s = s := by
  unfold kept
  funext i
  idx_vars i
  rw [View.readAt_eq_ld]
  refine (ld_rows _ 0 _ i0 i1 (by omega)).trans ?_
  refine (congrFun (Memref.IsWhole.read_unread (Memref.isWhole_whole cc0_scratch0) s) _).trans (by simp)

section

variable {R W C : ℕ} {e : EltTy} {κ : Kind} {sp : Space} (v : View sig κ sp (⟨2, ![R, C]⟩ : Shape) e) (f : v.ty.Contents (Elt Ideal)) (o : ℕ)
  (inb : ∀ a, ![o, 0] a + ![W, C] a ≤ (⟨2, ![R, C]⟩ : Shape).size a) (w : (⟨2, ![W, C]⟩ : Shape).Idx → Elt Ideal e)
  (L : List (View.Piece (Elt Ideal) (⟨2, ![R, C]⟩ : Shape) e))

/-- A row under the newest store of whole rows reads that store. -/
theorem read_mem (y : Fin R) (l : Fin W) (k : Fin C) (h : y.val = o + l.val) :
    v.read (Elt Ideal) (v.writes (Elt Ideal) f (⟨Rect.unit (s := ⟨2, ![R, C]⟩) ![o, 0] ![W, C] inb, w⟩ :: L)) (ix2 y k) = w (ix2 l k) :=
  View.read_writes_cons_rows_of_mem (o := o) v f inb w L (ix2 y k) (ix2 l k) rfl h rfl

/-- Another row reads the stores before it. -/
theorem read_not_mem (y : Fin R) (k : Fin C) (h : y.val < o ∨ o + W ≤ y.val) :
    v.read (Elt Ideal) (v.writes (Elt Ideal) f (⟨Rect.unit (s := ⟨2, ![R, C]⟩) ![o, 0] ![W, C] inb, w⟩ :: L)) (ix2 y k)
      = v.read (Elt Ideal) (v.writes (Elt Ideal) f L) (ix2 y k) :=
  View.read_writes_cons_rows_of_not_mem (o := o) (W := W) v f inb w L (ix2 y k) rfl rfl h

end

/-- The stored tokens, at a row of the extended buffer. -/
theorem fresh_apply (f) (l : List (View.Piece (Elt Ideal) S272x2048 .bf16)) (i : Fin 272) (j : Fin 2048) (hi : 16 ≤ i.val) :
    scM0_1.view.read (Elt Ideal) (scM0_1.view.writes (Elt Ideal) f (fresh m c t :: l)) (ix2 i j) = iblk m c 0 t (ix2 ⟨i.val - 16, by omega⟩ j) := by
  unfold fresh
  refine (read_mem _ _ 16 _ _ _ i (⟨i.val - 16, by omega⟩ : Fin 256) j (by show i.val = 16 + (i.val - 16); omega)).trans ?_
  rw [View.readAt_eq_ld, Memref.IsWhole.read_unread]
  pointwise []
theorem fresh_before (f) (l : List (View.Piece (Elt Ideal) S272x2048 .bf16)) (i : Fin 272) (j : Fin 2048) (hi : i.val < 16) :
    scM0_1.view.read (Elt Ideal) (scM0_1.view.writes (Elt Ideal) f (fresh m c t :: l)) (ix2 i j)
      = scM0_1.view.read (Elt Ideal) (scM0_1.view.writes (Elt Ideal) f l) (ix2 i j) := by
  unfold fresh
  exact read_not_mem _ _ 16 _ _ _ i j (Or.inl hi)
theorem ext1_apply (i : Fin 144) (j : Fin 2048) : ext1 m c t (ix2 i j) = iblk m c 0 t (ix2 ⟨112 + i.val, by omega⟩ j) := by
  unfold ext1
  unfold View.readCov
  rw [View.readAt_eq_ld]
  refine (ld_rows _ 128 _ i j (by omega)).trans ?_
  rw [fresh_apply _ _ _ _ _ _ _ (by show 16 ≤ 128 + i.val; omega)]
  exact congrArg _ (congrArg (fun x => ix2 x j) (Fin.ext (by show 128 + i.val - 16 = 112 + i.val; omega)))
theorem extO_apply (i : Fin 144) (j : Fin 2048) : extO m c t (ix2 i j) = iblk m c 0 t (ix2 ⟨112 + i.val, by omega⟩ j) := by
  unfold extO
  unfold View.readCov
  rw [View.readAt_eq_ld]
  refine (ld_rows _ 128 _ i j (by omega)).trans ?_
  rw [fresh_apply _ _ _ _ _ _ _ (by show 16 ≤ 128 + i.val; omega)]
  exact congrArg _ (congrArg (fun x => ix2 x j) (Fin.ext (by show 128 + i.val - 16 = 112 + i.val; omega)))
theorem ext0_apply (k) (i : Fin 144) (j : Fin 2048) : ext0 m c t k (ix2 i j) =
    if h : 16 ≤ i.val then iblk m c 0 t (ix2 ⟨i.val - 16, by omega⟩ j) else k (ix2 ⟨i.val, by omega⟩ j) := by
  unfold ext0
  rw [View.readAt_eq_ld]
  refine (ld_rows _ 0 _ i j (by omega)).trans ?_
  split
  · rename_i h
    rw [fresh_apply _ _ _ _ _ _ _ (by show 16 ≤ 0 + i.val; omega)]
    exact congrArg _ (congrArg (fun x => ix2 x j) (Fin.ext (by show 0 + i.val - 16 = i.val - 16; omega)))
  · rename_i h
    rw [fresh_before _ _ _ _ _ _ _ (by show 0 + i.val < 16; omega)]
    refine (congrFun (Memref.IsWhole.read_unread (Memref.isWhole_whole cc0_scratch1) k) _).trans ?_
    exact congrArg _ (congrArg (fun x => ix2 x j) (Fin.ext (Nat.zero_add _)))
theorem extZ_apply (i : Fin 144) (j : Fin 2048) : extZ m c t (ix2 i j) =
    if h : 16 ≤ i.val then iblk m c 0 t (ix2 ⟨i.val - 16, by omega⟩ j) else (0 : EReal) := by
  unfold extZ
  unfold View.readCov
  rw [View.readAt_eq_ld]
  refine (ld_rows _ 0 _ i j (by omega)).trans ?_
  split
  · rename_i h
    rw [fresh_apply _ _ _ _ _ _ _ (by show 16 ≤ 0 + i.val; omega)]
    exact congrArg _ (congrArg (fun x => ix2 x j) (Fin.ext (by show 0 + i.val - 16 = i.val - 16; omega)))
  · rename_i h
    rw [fresh_before _ _ _ _ _ _ _ (by show 0 + i.val < 16; omega)]
    refine (read_mem _ _ 0 _ _ _ _ (⟨i.val, by omega⟩ : Fin 16) j rfl).trans ?_
    pointwise []
theorem blank_apply (n : Fin 128) (j : Fin 1024) : blank (ix2 n j) = (0 : EReal) := by
  unfold blank
  unfold View.readCov
  rw [View.readAt_eq_ld]
  refine (ld_rows _ 0 _ n j (by omega)).trans ?_
  refine (read_mem _ _ 0 _ _ _ _ n j rfl).trans ?_
  pointwise []
theorem storeS_apply (s l) : VS0_0.read (Elt Ideal) (VS0_0.writes (Elt Ideal) VS0_0.junk (storeS s l)) = s := by
  funext i
  idx_vars i
  unfold storeS
  refine (read_mem _ _ 0 _ _ _ i0 i0 i1 (Nat.zero_add _).symm).trans ?_
  pointwise []
theorem stores_0 (a b) (l : Fin 128) (j : Fin 1024) :
    VO0_10.read (Elt Ideal) (VO0_10.writes (Elt Ideal) VO0_10.junk (stores a b)) (ix2 ⟨l.val, by omega⟩ j) = a (ix2 l j) := by
  unfold stores
  refine (read_not_mem _ _ 128 _ _ _ (⟨l.val, by omega⟩ : Fin 256) j (Or.inl l.isLt)).trans ?_
  exact read_mem _ _ 0 _ _ _ (⟨l.val, by omega⟩ : Fin 256) l j (Nat.zero_add _).symm
theorem stores_1 (a b) (l : Fin 128) (j : Fin 1024) :
    VO0_10.read (Elt Ideal) (VO0_10.writes (Elt Ideal) VO0_10.junk (stores a b)) (ix2 ⟨128 + l.val, by omega⟩ j) = b (ix2 l j) := by
  unfold stores
  exact read_mem _ _ 128 _ _ _ (⟨128 + l.val, by omega⟩ : Fin 256) l j rfl

section
variable {m : (ℓ : Loc nD τ sig) → Buf (Elt Ideal) ℓ} {c : Dev nD} {t : Fin cfg0.N}

/-- The rows kept for the next point. -/
def keep (L : List (View.Piece (Elt Ideal) S272x2048 .bf16)) : View.Piece (Elt Ideal) S272x2048 .bf16 :=
  ⟨Rect.unit (s := S272x2048) ![0, 0] S16x2048.size inb_S272x2048_S16x2048_0_0, k0_pay1
    (scM0_1.view.readCov L (Rect.unit (s := S272x2048) ![256, 0] S16x2048.size inb_S272x2048_S16x2048_256_0).toLoadRect)⟩

def zeroRows : View.Piece (Elt Ideal) S272x2048 .bf16 := ⟨Rect.unit (s := S272x2048) ![0, 0] S16x2048.size inb_S272x2048_S16x2048_0_0,
    shapeCast S16x2048 (broadcast S16x2048 (FloatOps.ofBits (F := Ideal) FTy.bf16 0#16)) shapeCasts_S16x2048_S16x2048⟩

theorem keep_apply (l) (i : Fin 16) (j : Fin 2048) :
    VS0_1.read (Elt Ideal) (VS0_1.writes (Elt Ideal) VS0_1.junk (keep (fresh m c t :: l) :: fresh m c t :: l)) (ix2 ⟨i.val, by omega⟩ j)
      = iblk m c 0 t (ix2 ⟨240 + i.val, by omega⟩ j) := by
  refine (read_mem _ _ 0 _ _ _ (⟨i.val, by omega⟩ : Fin 272) i j (Nat.zero_add _).symm).trans ?_
  generalize hx : scM0_1.view.readCov (fresh m c t :: l) (Rect.unit (s := S272x2048) ![256, 0] S16x2048.size inb_S272x2048_S16x2048_256_0).toLoadRect = x
  have hp : ∀ x : Vec Ideal S16x2048 .bf16, k0_pay1 x (ix2 i j) = x (ix2 i j) := by
    intro x
    pointwise [k0_pay1]
  refine (hp x).trans ?_
  rw [← hx]
  unfold View.readCov
  rw [View.readAt_eq_ld]
  refine (ld_rows _ 256 _ i j (by omega)).trans ?_
  rw [fresh_apply _ _ _ _ _ _ _ (by show 16 ≤ 256 + i.val; omega)]
  exact congrArg _ (congrArg (fun x => ix2 x j) (Fin.ext (by show 256 + i.val - 16 = 240 + i.val; omega)))

set_option maxHeartbeats 1500000 in
theorem keep_B (h : ¬ t.val % 16 = 0) : (outsAt0 m c t.val t.isLt).2.2 =
    VS0_1.read (Elt Ideal) (VS0_1.writes (Elt Ideal) VS0_1.junk [keep [fresh m c t], fresh m c t]) := by
  rw [outsAt0_B m c t h]
  frame_open
  rfl

set_option maxHeartbeats 1500000 in
theorem keep_A (h : t.val % 16 = 0) : (outsAt0 m c t.val t.isLt).2.2 =
    VS0_1.read (Elt Ideal) (VS0_1.writes (Elt Ideal) VS0_1.junk [keep [fresh m c t, zeroRows], fresh m c t, zeroRows]) := by
  rw [outsAt0_A m c t h]
  frame_open
  rfl

theorem kept_rows (i : Fin 16) (j : Fin 2048) : (outsAt0 m c t.val t.isLt).2.2 (ix2 ⟨i.val, by omega⟩ j) =
    iblk m c 0 t (ix2 ⟨240 + i.val, by omega⟩ j) := by
  by_cases h : t.val % 16 = 0
  · rw [keep_A h]
    exact keep_apply _ i j
  · rw [keep_B h]
    exact keep_apply _ i j
end

section
variable {p : Cert.Ssd.Data} {q : Fin 4} {ch : ℕ}
  {a : FVec Ideal S128x2048 .f32} {d : FVec Ideal S128x16 .f32} {na : FVec Ideal S1x16 .f32} {r : FVec Ideal S16x1024 .bf16}
  {s : FVec Ideal S128x1024 .f32}
  (ha : ∀ l j, a (ix2 l j) = p.A q (128 * ch + l.val) j) (hd : ∀ l h, d (ix2 l h) = p.D q (128 * ch + l.val) h)
  (hna : ∀ h, na (ix2 0 h) = p.na h) (hr : ∀ h col, r (ix2 h col) = if h = Cert.Ssd.hd col then (1 : EReal) else 0)
  (hs : ∀ n col, s (ix2 n col) = p.kst q ch n col)

include ha hd hna hr hs

/-- The state after a chunk. -/
theorem next_st (n : Fin 128) (col : Fin 1024) : next a d na r s (ix2 n col) = p.kst q (ch + 1) n col := by
  rw [next_apply (fun l h => by rw [hd, hna]; exact p.D_mul_na_ne_top q _ h) hr]
  simp only [ha, hd, hna, hs]
  rfl

/-- A chunk's results. -/
theorem half_out {dk nw : FVec Ideal S1x1024 .f32} {z : FVec Ideal S128x1024 .bf16} (hdk : ∀ col, dk (ix2 0 col) = p.dk (Cert.Ssd.hd col))
    (hnw : ∀ col, nw (ix2 0 col) = p.nw col) (hz : ∀ l col, z (ix2 l col) = Cert.Ssd.row p.z q (128 * ch + l.val) col)
    (l : Fin 128) (col : Fin 1024) : half a d na r s dk nw z (ix2 l col) = p.kout q ch l col := by
  rw [half_apply (fun l h => by rw [hd, hna]; exact p.D_mul_na_ne_top q _ h) hr]
  simp only [ha, hd, hna, hs, hdk, hnw, hz]
  rfl

end

section
variable (m : (ℓ : Loc nD τ sig) → Buf (Elt Ideal) ℓ) (c : Dev nD) (t : Fin cfg0.N)

/-- The activated rows of a half block whose extension holds the sixteen tokens before it. -/
theorem act_rows {e : FVec Ideal S144x2048 .bf16} {U : FVec Ideal S128x2048 .bf16} {q : Fin 4} {o : ℕ}
    (hE : ∀ i j, e (ix2 i j) = if 16 ≤ o + i.val then Cert.Ssd.row (data m c).x q (o + i.val - 16) j else 0)
    (hU : ∀ l j, U (ix2 l j) = Cert.Ssd.row (data m c).x q (o + l.val) j) (l : Fin 128) (j : Fin 2048) :
    act e U (ldW0 m c t) (ldW1 m c t) (ldW2 m c t) (ldW3 m c t) (ldB m c t) (ix2 l j) = (data m c).A q (o + l.val) j := by
  have hb : ∀ k : ℕ, k ≤ 3 → ∀ i : Fin 144, i.val + k = l.val + 16 → e (ix2 i j) = Cert.Ssd.before (Cert.Ssd.row (data m c).x q) (o + l.val) k j := by
    intro k hk i hi
    rw [hE]
    unfold Cert.Ssd.before
    refine if_congr (by omega) ?_ rfl
    rw [show o + i.val - 16 = o + l.val - k by omega]
  refine (act_apply _ _ _ _ _ _ _ l j (Cert.Ssd.conv (Cert.Ssd.row (data m c).x q) (data m c).w (data m c).b (o + l.val) j) ?_).trans rfl
  rw [hU, ldW0_apply, ldW1_apply, ldW2_apply, ldW3_apply, ldB_apply, hb 3 (by omega) _ (by show l.val + 13 + 3 = _; omega),
    hb 2 (by omega) _ (by show l.val + 14 + 2 = _; omega), hb 1 (by omega) _ (by show l.val + 15 + 1 = _; omega)]
  unfold Cert.Ssd.conv
  rw [← blk_b m c t, ← blk_w m c t, ← blk_w m c t, ← blk_w m c t, ← blk_w m c t]
  rfl
end

section
variable (m : (ℓ : Loc nD τ sig) → Buf (Elt Ideal) ℓ) (c : Dev nD) (t : Fin cfg0.N)

theorem base_eq : base t = 128 * (2 * (t.val % 16)) := by unfold base; omega

theorem base_eq' (l : Fin 128) : base t + (128 + l.val) = 128 * (2 * (t.val % 16) + 1) + l.val := by unfold base; omega

theorem rows_U0 (l : Fin 128) (j : Fin 2048) : ldU0 m c t (ix2 l j) = Cert.Ssd.row (data m c).x (seq t) (128 * (2 * (t.val % 16)) + l.val) j := by
  rw [ldU0_apply, blk_x, base_eq]
  exact congrArg (fun k => Cert.Ssd.row _ _ k j) (by show _ + (0 + l.val) = _; omega)
theorem rows_U1 (l : Fin 128) (j : Fin 2048) : ldU1 m c t (ix2 l j) = Cert.Ssd.row (data m c).x (seq t) (128 * (2 * (t.val % 16) + 1) + l.val) j := by
  rw [ldU1_apply, blk_x, ← base_eq']
theorem rows_Z0 (l : Fin 128) (j : Fin 1024) : ldZ0 m c t (ix2 l j) = Cert.Ssd.row (data m c).z (seq t) (128 * (2 * (t.val % 16)) + l.val) j := by
  rw [ldZ0_apply, blk_z, base_eq]
  exact congrArg (fun k => Cert.Ssd.row _ _ k j) (by show _ + (0 + l.val) = _; omega)
theorem rows_Z1 (l : Fin 128) (j : Fin 1024) : ldZ1 m c t (ix2 l j) = Cert.Ssd.row (data m c).z (seq t) (128 * (2 * (t.val % 16) + 1) + l.val) j := by
  rw [ldZ1_apply, blk_z, ← base_eq']
theorem steps_0 (l : Fin 128) (h : Fin 16) : dt (ldR0 m c t) (ldD m c t) (ix2 l h) = (data m c).D (seq t) (128 * (2 * (t.val % 16)) + l.val) h := by
  rw [dt_apply, ldR0_apply, ldD_apply, blk_r, base_eq]
  unfold Cert.Ssd.Data.D
  rw [← blk_db m c t]
  exact congrArg (fun k => Cert.Ssd.softplus (Cert.Ssd.row _ _ k h + _)) (by show _ + (0 + l.val) = _; omega)
theorem steps_1 (l : Fin 128) (h : Fin 16) : dt (ldR1 m c t) (ldD m c t) (ix2 l h) = (data m c).D (seq t) (128 * (2 * (t.val % 16) + 1) + l.val) h := by
  rw [dt_apply, ldR1_apply, ldD_apply, blk_r, ← base_eq']
  unfold Cert.Ssd.Data.D
  rw [← blk_db m c t]
  rfl
theorem rates (h : Fin 16) : rate (ldA m c t) (ix2 0 h) = (data m c).na h := by
  rw [rate_apply, ldA_apply]
  unfold Cert.Ssd.Data.na
  rw [← blk_al m c t]
  rfl
theorem heads (h : Fin 16) (col : Fin 1024) : ldX m c t (ix2 h col) = if h = Cert.Ssd.hd col then (1 : EReal) else 0 := by
  rw [ldX_apply, ← blk_e m c t]
  exact congrArg (fun h => iblk m c 9 t (ix2 h col)) (Fin.ext (Nat.zero_add _))
theorem skips (col : Fin 1024) : ldK m c t (ix2 0 col) = (data m c).dk (Cert.Ssd.hd col) := by
  rw [ldK_apply, ← blk_dk m c t]
  rfl
theorem norms (col : Fin 1024) : ldN m c t (ix2 0 col) = (data m c).nw col := by
  rw [ldN_apply, ← blk_nw m c t]
  rfl

variable {e0 e1 : FVec Ideal S144x2048 .bf16} {s : FVec Ideal S128x1024 .f32}
  (h0 : ∀ i j, e0 (ix2 i j) = if 16 ≤ base t + i.val then Cert.Ssd.row (data m c).x (seq t) (base t + i.val - 16) j else 0)
  (h1 : ∀ i j, e1 (ix2 i j) = iblk m c 0 t (ix2 ⟨112 + i.val, by omega⟩ j))
  (hs : ∀ n col, s (ix2 n col) = (data m c).kst (seq t) (2 * (t.val % 16)) n col)

include h0 in
theorem acts_0 (l : Fin 128) (j : Fin 2048) : act0 m c t e0 (ix2 l j) = (data m c).A (seq t) (128 * (2 * (t.val % 16)) + l.val) j :=
  act_rows m c t (fun i j => by rw [h0, base_eq]) (rows_U0 m c t) l j

include h1 in
theorem acts_1 (l : Fin 128) (j : Fin 2048) : act1 m c t e1 (ix2 l j) = (data m c).A (seq t) (128 * (2 * (t.val % 16) + 1) + l.val) j := by
  refine act_rows m c t (fun i j => ?_) (rows_U1 m c t) l j
  rw [h1, blk_x, if_pos (by omega), base_eq]
  exact congrArg (fun k => Cert.Ssd.row _ _ k j) (by show _ + (112 + i.val) = _; omega)

include h0 hs in
theorem mid_st (n : Fin 128) (col : Fin 1024) : midState m c t e0 s (ix2 n col) = (data m c).kst (seq t) (2 * (t.val % 16) + 1) n col :=
  next_st (acts_0 m c t h0) (steps_0 m c t) (rates m c t) (heads m c t) hs n col

include h0 hs in
theorem out_0 (l : Fin 128) (col : Fin 1024) : outRows0 m c t e0 s (ix2 l col) = (data m c).kout (seq t) (2 * (t.val % 16)) l col :=
  half_out (acts_0 m c t h0) (steps_0 m c t) (rates m c t) (heads m c t) hs (skips m c t) (norms m c t) (rows_Z0 m c t) l col

include h0 h1 hs in
theorem end_st (n : Fin 128) (col : Fin 1024) :
    endState m c t e1 (midState m c t e0 s) (ix2 n col) = (data m c).kst (seq t) (2 * (t.val % 16) + 2) n col :=
  next_st (acts_1 m c t h1) (steps_1 m c t) (rates m c t) (heads m c t) (mid_st m c t h0 hs) n col

include h0 h1 hs in
theorem out_1 (l : Fin 128) (col : Fin 1024) :
    outRows1 m c t e1 (midState m c t e0 s) (ix2 l col) = (data m c).kout (seq t) (2 * (t.val % 16) + 1) l col :=
  half_out (acts_1 m c t h1) (steps_1 m c t) (rates m c t) (heads m c t) (mid_st m c t h0 hs) (skips m c t) (norms m c t)
    (rows_Z1 m c t) l col

end

section
variable (m : (ℓ : Loc nD τ sig) → Buf (Elt Ideal) ℓ) (c : Dev nD)

theorem ext0_rows (t : Fin cfg0.N) (h : ¬ t.val % 16 = 0) (hp : t.val - 1 < cfg0.N) (i : Fin 144) (j : Fin 2048) :
    ext0 m c t (outsAt0 m c (t.val - 1) hp).2.2 (ix2 i j)
      = if 16 ≤ base t + i.val then Cert.Ssd.row (data m c).x (seq t) (base t + i.val - 16) j else 0 := by
  have hN := lt_N t
  rw [if_pos (by unfold base; omega), ext0_apply]
  split
  · rename_i hi
    rw [blk_x]
    exact congrArg (fun k => Cert.Ssd.row _ _ k j) (by show _ + (i.val - 16) = _; omega)
  · rename_i hi
    have hk := kept_rows (m := m) (c := c) (t := ⟨t.val - 1, hp⟩) ⟨i.val, by omega⟩ j
    refine hk.trans ?_
    rw [blk_x, show seq ⟨t.val - 1, hp⟩ = seq t from Fin.ext (by show (t.val - 1) / 16 = t.val / 16; omega)]
    exact congrArg (fun k => Cert.Ssd.row _ _ k j) (by unfold base; show 256 * ((t.val - 1) % 16) + (240 + i.val) = _; omega)

theorem extZ_rows (t : Fin cfg0.N) (h : t.val % 16 = 0) (i : Fin 144) (j : Fin 2048) :
    extZ m c t (ix2 i j) = if 16 ≤ base t + i.val then Cert.Ssd.row (data m c).x (seq t) (base t + i.val - 16) j else 0 := by
  have hb : base t = 0 := by unfold base; omega
  rw [extZ_apply, hb]
  split
  · rename_i hi
    rw [if_pos (by omega), blk_x, hb]
    exact congrArg (fun k => Cert.Ssd.row _ _ k j) (by show 0 + (i.val - 16) = _; omega)
  · rename_i hi
    rw [if_neg (by omega)]

/-- The state after every point. -/
theorem state_at : ∀ (n : ℕ) (h : n < cfg0.N) (k : Fin 128) (col : Fin 1024),
    (outsAt0 m c n h).2.1 (ix2 k col) = (data m c).kst (seq ⟨n, h⟩) (2 * (n % 16) + 2) k col := by
  intro n
  induction n with
  | zero =>
    intro h k col
    have e := state_A (m := m) (c := c) (t := ⟨0, h⟩) rfl
    refine (congrFun (e.trans (storeS_apply _ _)) _).trans ?_
    exact end_st m c ⟨0, h⟩ (extZ_rows m c _ rfl) (extO_apply m c _) (fun n col => blank_apply n col) k col
  | succ n ih =>
    intro h k col
    by_cases hz : (n + 1) % 16 = 0
    · have e := state_A (m := m) (c := c) (t := ⟨n + 1, h⟩) hz
      refine (congrFun (e.trans (storeS_apply _ _)) _).trans ?_
      refine end_st m c ⟨n + 1, h⟩ (extZ_rows m c _ hz) (extO_apply m c _) (fun n' col => ?_) k col
      rw [blank_apply, show (⟨n + 1, h⟩ : Fin cfg0.N).val % 16 = 0 from hz]
      rfl
    · have e := state_B (m := m) (c := c) (t := ⟨n + 1, h⟩) hz (by show n < _; omega)
      refine (congrFun (e.trans (storeS_apply _ _)) _).trans ?_
      refine end_st m c ⟨n + 1, h⟩ (ext0_rows m c _ hz _) (ext1_apply m c _) (fun n' col => ?_) k col
      rw [kept_apply]
      refine (ih (by omega) n' col).trans ?_
      rw [show seq ⟨n, by omega⟩ = seq ⟨n + 1, h⟩ from Fin.ext (by show n / 16 = (n + 1) / 16; omega),
        show 2 * (n % 16) + 2 = 2 * ((⟨n + 1, h⟩ : Fin cfg0.N).val % 16) by show _ = 2 * ((n + 1) % 16); omega]

/-- The result rows of a point: its two chunks'. -/
theorem rows_at (t : Fin cfg0.N) (l : Fin 128) (col : Fin 1024) :
    (outsAt0 m c t.val t.isLt).1 (ix2 ⟨l.val, by omega⟩ col) = (data m c).kout (seq t) (2 * (t.val % 16)) l col
      ∧ (outsAt0 m c t.val t.isLt).1 (ix2 ⟨128 + l.val, by omega⟩ col) = (data m c).kout (seq t) (2 * (t.val % 16) + 1) l col := by
  by_cases h : t.val % 16 = 0
  · have hb : ∀ n col, blank (ix2 n col) = (data m c).kst (seq t) (2 * (t.val % 16)) n col := by
      intro n col
      rw [blank_apply, h]
      rfl
    rw [out_A h]
    exact ⟨(stores_0 _ _ l col).trans (out_0 m c t (extZ_rows m c t h) hb l col),
      (stores_1 _ _ l col).trans (out_1 m c t (extZ_rows m c t h) (extO_apply m c t) hb l col)⟩
  · have hp : t.val - 1 < cfg0.N := by have := t.isLt; omega
    have hk : ∀ n col, kept (outsAt0 m c (t.val - 1) hp).2.1 (ix2 n col) = (data m c).kst (seq t) (2 * (t.val % 16)) n col := by
      intro n col
      rw [kept_apply, state_at m c (t.val - 1) hp, show seq ⟨t.val - 1, hp⟩ = seq t from Fin.ext (by show (t.val - 1) / 16 = t.val / 16; omega),
        show 2 * ((t.val - 1) % 16) + 2 = 2 * (t.val % 16) by omega]
    rw [out_B h hp]
    exact ⟨(stores_0 _ _ l col).trans (out_0 m c t (ext0_rows m c t h hp) hk l col),
      (stores_1 _ _ l col).trans (out_1 m c t (ext0_rows m c t h hp) (ext1_apply m c t) hk l col)⟩
end

section
variable (m : (ℓ : Loc nD τ sig) → Buf (Elt Ideal) ℓ) (c : Dev nD)

/-- The layer's result: row `i` is token `i % 4096` of sequence `i / 4096`. -/
def resultOf (p : Cert.Ssd.Data) : FVec Ideal S16384x1024 .bf16 := fun i =>
  p.out ⟨(i 0).val / 4096, by have : (i 0).val < 16384 := (i 0).isLt; omega⟩ ((i 0).val % 4096 / 128) ⟨(i 0).val % 128, by omega⟩ (i 1)

/-- The result array after the run. -/
theorem final : (dats m 0 c).arrAt 10 cfg0.N = resultOf (data m c) := by
  refine (dats m 0 c).arrAt_eq_of_covers 10 _ (by decide +kernel) fun t hf y => ?_
  blk_simp
  rw [after0_10]
  idx_vars y
  have hN := lt_N t
  have he : ((View.whole main_v26).slice (win0_10.rect t)).emb (ix2 y0 y1) = ix2 ⟨t.val * 256 + y0.val, by omega⟩ y1 := by
    blk_ext [idx t]
  rw [he]
  unfold resultOf
  simp only [ix2_0, ix2_1]
  have hq : (⟨(t.val * 256 + y0.val) / 4096, by omega⟩ : Fin 4) = seq t := Fin.ext (by show (t.val * 256 + y0.val) / 4096 = t.val / 16; omega)
  rw [hq, ← Cert.Ssd.Data.kout_eq]
  by_cases h : y0.val < 128
  · refine Eq.trans ?_ ((rows_at m c t ⟨y0.val, h⟩ y1).1.trans ?_)
    · rfl
    · rw [show (t.val * 256 + y0.val) % 4096 / 128 = 2 * (t.val % 16) by omega]
      exact congrArg (fun l => (data m c).kout _ _ l y1) (Fin.ext (by show y0.val = (t.val * 256 + y0.val) % 128; omega))
  · have e0 : y0 = ⟨128 + (⟨y0.val - 128, by omega⟩ : Fin 128).val, by show 128 + (y0.val - 128) < 256; omega⟩ := Fin.ext (by show y0.val = 128 + (y0.val - 128); omega)
    refine Eq.trans (congrArg (fun y => (outsAt0 m c t.val t.isLt).1 (ix2 y y1)) e0) ((rows_at m c t ⟨y0.val - 128, by omega⟩ y1).2.trans ?_)
    rw [show (t.val * 256 + y0.val) % 4096 / 128 = 2 * (t.val % 16) + 1 by omega]
    exact congrArg (fun l => (data m c).kout _ _ l y1) (Fin.ext (by show y0.val - 128 = (t.val * 256 + y0.val) % 128; omega))
end

end Cert.SsdKernelIdeal.Ssd

end
-- ==== Proof.Ssd.lean ====
/-
  The Mamba-2 scan: a trip of the reference's loop is a chunk of the formulas of `SsdSpec`, its result is theirs after the
  last trip, and so kernel and reference end with the same array.
-/
module

public import proofs.«01_k».proof.Defs
public import proofs.«01_k».proof.Proof.SsdChunks
public import proofs.«01_k».proof.Proof.SsdPoints
public import proofs.«01_k».proof.Proof.Gen.SsdReferenceIdeal.StepRun
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.SsdReferenceIdeal.Ssd

open Cert.SsdReferenceIdeal Cert.SsdReferenceIdeal.Step

section Trip

variable (a0 : FVec Ideal S4x4096x1024 .f32) (a1 : FVec Ideal S4x4096x2048 .f32) (a2 : FVec Ideal S4x4096x16 .f32) (a3 : FVec Ideal S1x4x2048 .f32)
  (a4 : FVec Ideal S1x2048 .f32) (a5 : FVec Ideal S1x16 .f32) (a6 : FVec Ideal S1x16 .f32) (a7 : FVec Ideal S1x16 .f32) (a8 : FVec Ideal S1x1024 .f32)

/-- What every trip finds unchanged: the arrays the loop slices and the two parameters it reads whole. -/
structure Fixed (s : State Ideal) : Prop where
  f0 : s.main_v99_0 = A_main_v89 (F := Ideal) a0 a1 a2 a3 a4 a5 a6
  f1 : s.main_v99_1 = A_main_v90 (F := Ideal) a0 a1 a2 a3 a4 a5 a6
  f2 : s.main_v99_2 = A_main_v91 (F := Ideal) a0 a1 a2 a3 a4 a5 a6
  f3 : s.main_v99_3 = A_main_v93 (F := Ideal) a0 a1 a2 a3 a4 a5 a6
  f4 : s.main_v99_4 = A_main_v94 (F := Ideal) a0 a1 a2 a3 a4 a5 a6
  f5 : s.main_v99_5 = A_main_v95 (F := Ideal) a0 a1 a2 a3 a4 a5 a6
  f6 : s.main_v99_6 = A_main_v97 (F := Ideal) a0 a1 a2 a3 a4 a5 a6
  f8 : s.main_v99_8 = a7
  f9 : s.main_v99_9 = a8

/-- The carried state is the state before chunk `k`. -/
def Carried (k : ℕ) (s : State Ideal) : Prop := ∀ (b g r : Fin 4) (p : Fin 64) (n : Fin 128), s.main_v99_11 (ix5 b g r p n) = (dat a0 a1 a2 a3 a4 a5 a6 a7 a8).st b k n (cix g r p)

variable (s : State Ideal) (c : Fin 32) (b : Fin 4) (l : Fin 128) (g r : Fin 4) (p : Fin 64) (n : Fin 128)

theorem next_apply (hf : Fixed a0 a1 a2 a3 a4 a5 a6 a7 a8 s) (hs : Carried a0 a1 a2 a3 a4 a5 a6 a7 a8 c.val s) : Carried a0 a1 a2 a3 a4 a5 a6 a7 a8 (c.val + 1) (step c.val s) := by
  intro b g r p n
  rw [step_main_v99_11]
  have h0 := (slice_0 s c b g r p n).trans ((congrFun hf.f0 _).trans (fed_apply a0 a1 a2 a3 a4 a5 a6 a7 a8 b c g r p n))
  have h1 := (slice_1 s c b g r).trans ((congrFun hf.f1 _).trans (last_apply a0 a1 a2 a3 a4 a5 a6 a7 a8 b c g r))
  pointwise [b83, b82, b81, b80, b11, b6]
  rw [h0, h1, hs b g r p n]
  show _ = Cert.Ssd.stateOut (rowsA a0 a1 a2 a3 a4 a5 a6 a7 a8 b c) (rowsD a0 a1 a2 a3 a4 a5 a6 a7 a8 b c) (rowsD a0 a1 a2 a3 a4 a5 a6 a7 a8 b c) (dat a0 a1 a2 a3 a4 a5 a6 a7 a8).na ((dat a0 a1 a2 a3 a4 a5 a6 a7 a8).st b c.val) n (cix g r p)
  unfold Cert.Ssd.stateOut
  rw [hd_cix, gr_cix]

theorem summed_apply (hf : Fixed a0 a1 a2 a3 a4 a5 a6 a7 a8 s) (hs : Carried a0 a1 a2 a3 a4 a5 a6 a7 a8 c.val s) : b60 c.val s (ix5 b l g r p)
    = Cert.Ssd.summed (rowsA a0 a1 a2 a3 a4 a5 a6 a7 a8 b c) (rowsD a0 a1 a2 a3 a4 a5 a6 a7 a8 b c) (rowsD a0 a1 a2 a3 a4 a5 a6 a7 a8 b c) (dat a0 a1 a2 a3 a4 a5 a6 a7 a8).na ((dat a0 a1 a2 a3 a4 a5 a6 a7 a8).st b c.val) (fun col => (dat a0 a1 a2 a3 a4 a5 a6 a7 a8).dk (Cert.Ssd.hd col)) (fun l => Cert.Ssd.row (dat a0 a1 a2 a3 a4 a5 a6 a7 a8).z b (128 * c.val + l.val)) l (cix g r p) := by
  have h2 := fun n => (slice_2 s c b l g n).trans ((congrFun hf.f2 _).trans (outs_apply a0 a1 a2 a3 a4 a5 a6 a7 a8 b c l g n))
  have h3 := (slice_3 s c b l g r).trans ((congrFun hf.f3 _).trans (exp_apply a0 a1 a2 a3 a4 a5 a6 a7 a8 b c l g r))
  have h4 := (slice_4 s c b l g r p).trans ((congrFun hf.f4 _).trans (diag_apply a0 a1 a2 a3 a4 a5 a6 a7 a8 b c l g r p))
  have h5 := (slice_5 s c b l g r p).trans ((congrFun hf.f5 _).trans (xs_apply a0 a1 a2 a3 a4 a5 a6 a7 a8 b c l g r p))
  have h6 := (slice_6 s c b l g r p).trans ((congrFun hf.f6 _).trans (gate_apply a0 a1 a2 a3 a4 a5 a6 a7 a8 b c l g r p))
  pointwise [b60, b59, b58, b57, b56, b55, b54, b53, b52, b51, b50, b49, b48, b47, b44, b37, b30, b23, b17]
  rw [h3, h4, h5, h6, hf.f8]
  unfold Cert.Ssd.summed
  rw [hd_cix, gr_cix]
  simp only [h2, hs b g r p]
  rw [show (∑ n, (dat a0 a1 a2 a3 a4 a5 a6 a7 a8).st b c.val n (cix g r p) * (rowsA a0 a1 a2 a3 a4 a5 a6 a7 a8 b c) l (Cert.Ssd.outC g n)) = ∑ n, (rowsA a0 a1 a2 a3 a4 a5 a6 a7 a8 b c) l (Cert.Ssd.outC g n) * (dat a0 a1 a2 a3 a4 a5 a6 a7 a8).st b c.val n (cix g r p)
    from Finset.sum_congr rfl fun n _ => mul_comm _ _, hd_cix]
  rfl

theorem cix_split (g : Fin 4) (q : Fin 256) : cix g ⟨q.val / 64, by omega⟩ ⟨q.val % 64, by omega⟩ = Cert.Ssd.grC g q :=
  Fin.ext (by show g.val * 256 + q.val / 64 * 64 + q.val % 64 = 256 * g.val + q.val; omega)

theorem grouped_apply (q : Fin 256) (hf : Fixed a0 a1 a2 a3 a4 a5 a6 a7 a8 s) (hs : Carried a0 a1 a2 a3 a4 a5 a6 a7 a8 c.val s) : b61 c.val s (ix4 b l g q)
    = Cert.Ssd.summed (rowsA a0 a1 a2 a3 a4 a5 a6 a7 a8 b c) (rowsD a0 a1 a2 a3 a4 a5 a6 a7 a8 b c) (rowsD a0 a1 a2 a3 a4 a5 a6 a7 a8 b c) (dat a0 a1 a2 a3 a4 a5 a6 a7 a8).na ((dat a0 a1 a2 a3 a4 a5 a6 a7 a8).st b c.val) (fun col => (dat a0 a1 a2 a3 a4 a5 a6 a7 a8).dk (Cert.Ssd.hd col)) (fun l => Cert.Ssd.row (dat a0 a1 a2 a3 a4 a5 a6 a7 a8).z b (128 * c.val + l.val)) l (Cert.Ssd.grC g q) := by
  have h := summed_apply a0 a1 a2 a3 a4 a5 a6 a7 a8 s c b l g ⟨q.val / 64, by omega⟩ ⟨q.val % 64, by omega⟩ hf hs
  rw [cix_split] at h
  rw [← h]
  pointwise [b61]

theorem normed_apply (col : Fin 1024) (hf : Fixed a0 a1 a2 a3 a4 a5 a6 a7 a8 s) (hs : Carried a0 a1 a2 a3 a4 a5 a6 a7 a8 c.val s) : b79 c.val s (ix3 b l col) = (dat a0 a1 a2 a3 a4 a5 a6 a7 a8).out b c.val l col := by
  have h := fun g q => grouped_apply a0 a1 a2 a3 a4 a5 a6 a7 a8 s c b l g q hf hs
  pointwise [b79, b78, b77, b76, b75, b74, b73, b72, b71, b70, b69, b68, b67, b66, b65, b64, b63, b62]
  simp only [h, hf.f9]
  rw [show Cert.Ssd.grC ⟨col.val / 256, by omega⟩ ⟨col.val % 256, by omega⟩ = col
    from Fin.ext (by show 256 * (col.val / 256) + col.val % 256 = col.val; omega)]
  show _ = Cert.Ssd.rmsNorm (fun col => Cert.Ssd.summed (rowsA a0 a1 a2 a3 a4 a5 a6 a7 a8 b c) (rowsD a0 a1 a2 a3 a4 a5 a6 a7 a8 b c) (rowsD a0 a1 a2 a3 a4 a5 a6 a7 a8 b c) (dat a0 a1 a2 a3 a4 a5 a6 a7 a8).na ((dat a0 a1 a2 a3 a4 a5 a6 a7 a8).st b c.val) (fun col => (dat a0 a1 a2 a3 a4 a5 a6 a7 a8).dk (Cert.Ssd.hd col))
    (fun l => Cert.Ssd.row (dat a0 a1 a2 a3 a4 a5 a6 a7 a8).z b (128 * c.val + l.val)) l col) (dat a0 a1 a2 a3 a4 a5 a6 a7 a8).nw col
  unfold Cert.Ssd.rmsNorm
  rfl

theorem same_trip : ∀ k c : Fin 32, IntOp.cmpi .eq (BitVec.ofNat 32 k.val) (BitVec.ofNat 32 c.val) = 1#1 ↔ k = c := by decide +kernel

theorem written_apply (k : Fin 32) (col : Fin 1024) (hf : Fixed a0 a1 a2 a3 a4 a5 a6 a7 a8 s) (hs : Carried a0 a1 a2 a3 a4 a5 a6 a7 a8 c.val s) :
    (step c.val s).main_v99_12 (ix4 k b l col) = if k = c then (dat a0 a1 a2 a3 a4 a5 a6 a7 a8).out b c.val l col else s.main_v99_12 (ix4 k b l col) := by
  rw [step_main_v99_12]
  have h := normed_apply a0 a1 a2 a3 a4 a5 a6 a7 a8 s c b l col hf hs
  have h7 := slice_7 s c
  pointwise [b91, b90, b89, b88, b87, b86, b85, b84, b46]
  rw [h, h7]
  unfold Scalar.select
  by_cases hk : k = c
  · rw [if_pos hk]; exact if_pos ((same_trip k c).mpr hk)
  · rw [if_neg hk]; exact if_neg fun h => hk ((same_trip k c).mp h)

theorem fixed_step (j : ℕ) (hf : Fixed a0 a1 a2 a3 a4 a5 a6 a7 a8 s) : Fixed a0 a1 a2 a3 a4 a5 a6 a7 a8 (step j s) := by
  obtain ⟨f0, f1, f2, f3, f4, f5, f6, f8, f9⟩ := hf
  exact ⟨f0, f1, f2, f3, f4, f5, f6, f8, f9⟩

/-- The loop's states, one a trip. -/
def states (s : State Ideal) : ℕ → State Ideal
  | 0 => s
  | n + 1 => step n (states s n)

/-- After `k` trips the carried state is the one before chunk `k`, and the first `k` chunks of the result stand. -/
theorem loop_apply (hf : Fixed a0 a1 a2 a3 a4 a5 a6 a7 a8 s) (hs : Carried a0 a1 a2 a3 a4 a5 a6 a7 a8 0 s) : ∀ k : ℕ, k ≤ 32 → Fixed a0 a1 a2 a3 a4 a5 a6 a7 a8 (states s k) ∧ Carried a0 a1 a2 a3 a4 a5 a6 a7 a8 k (states s k)
    ∧ ∀ (j : Fin 32) (b : Fin 4) (l : Fin 128) (col : Fin 1024), j.val < k → (states s k).main_v99_12 (ix4 j b l col) = (dat a0 a1 a2 a3 a4 a5 a6 a7 a8).out b j.val l col
  | 0, _ => ⟨hf, hs, fun j _ _ _ h => absurd h (Nat.not_lt_zero _)⟩
  | k + 1, hk => by
    obtain ⟨h1, h2, h3⟩ := loop_apply hf hs k (by omega)
    refine ⟨fixed_step a0 a1 a2 a3 a4 a5 a6 a7 a8 _ k h1, next_apply a0 a1 a2 a3 a4 a5 a6 a7 a8 _ (⟨k, by omega⟩ : Fin 32) h1 h2, fun j b l col hj => ?_⟩
    refine (written_apply a0 a1 a2 a3 a4 a5 a6 a7 a8 (states s k) (⟨k, by omega⟩ : Fin 32) b l j col h1 h2).trans ?_
    by_cases hjk : j = (⟨k, by omega⟩ : Fin 32)
    · rw [if_pos hjk, hjk]
    · rw [if_neg hjk]
      exact h3 j b l col (by have := fun h => hjk (Fin.ext h); have : j.val ≠ k := this; omega)

theorem zero_word : K_main_cst_2 (F := Ideal) ix0 = (0 : EReal) := by
  pointwise [K_main_cst_2]

theorem entry_apply : Fixed a0 a1 a2 a3 a4 a5 a6 a7 a8 (init a7 a8 a0 a1 a2 a3 a4 a5 a6) ∧ Carried a0 a1 a2 a3 a4 a5 a6 a7 a8 0 (init a7 a8 a0 a1 a2 a3 a4 a5 a6) := by
  refine ⟨⟨rfl, rfl, rfl, rfl, rfl, rfl, rfl, rfl, rfl⟩, fun b g r p n => ?_⟩
  show K_main_v87 (F := Ideal) (ix5 b g r p n) = 0
  pointwise [K_main_v87]
  exact zero_word

/-- The reference's result, row by row. -/
theorem result_apply (i : Fin 16384) (col : Fin 1024) : R_main_v102 (states (init a7 a8 a0 a1 a2 a3 a4 a5 a6) 32) (ix2 i col)
    = (dat a0 a1 a2 a3 a4 a5 a6 a7 a8).out ⟨i.val / 4096, by omega⟩ (i.val % 4096 / 128) ⟨i.val % 128, by omega⟩ col := by
  obtain ⟨hf, hs⟩ := entry_apply a0 a1 a2 a3 a4 a5 a6 a7 a8
  have h := (loop_apply a0 a1 a2 a3 a4 a5 a6 a7 a8 _ hf hs 32 le_rfl).2.2 ⟨i.val % 4096 / 128, by omega⟩ ⟨i.val / 4096, by omega⟩ ⟨i.val % 128, by omega⟩ col (by show i.val % 4096 / 128 < 32; omega)
  rw [← h, show (⟨i.val % 4096 / 128, by omega⟩ : Fin 32) = ⟨i.val / 128 % 32, by omega⟩
    from Fin.ext (by show i.val % 4096 / 128 = i.val / 128 % 32; omega)]
  pointwise [R_main_v102]

/-- The reference's result is the kernel's function of the arguments. -/
theorem result_eq : R_main_v102 (states (init a7 a8 a0 a1 a2 a3 a4 a5 a6) 32) = fun i : S16384x1024.Idx =>
    (dat a0 a1 a2 a3 a4 a5 a6 a7 a8).out ⟨(i 0).val / 4096, by have : (i 0).val < 16384 := (i 0).isLt; omega⟩ ((i 0).val % 4096 / 128) ⟨(i 0).val % 128, by omega⟩ (i 1) := by
  funext i
  idx_vars i
  exact result_apply a0 a1 a2 a3 a4 a5 a6 a7 a8 i0 i1

end Trip

end Cert.SsdReferenceIdeal.Ssd

namespace Cert.Ssd

/-- Kernel and reference end with the same result array. -/
theorem algebraic : Cert.algebraic_SsdKernelIdeal_SsdReferenceIdeal
    (hSsdKernelIdeal := Cert.SsdKernelIdeal.Gen.facts) (hSsdReferenceIdeal := Cert.SsdReferenceIdeal.Gen.facts) := by
  pair_intro
  · run_from (Cert.SsdKernelIdeal.Value.run_blocks (F := Ideal) m g)
  · run_from (Cert.SsdReferenceIdeal.StepRun.run_iter (F := Ideal) m' g' (fun c => Cert.SsdReferenceIdeal.Ssd.states (Cert.SsdReferenceIdeal.StepRun.initState m' c))
      (fun _ => rfl) fun _ _ => rfl)
    rw [Cert.SsdReferenceIdeal.Ssd.result_eq, Cert.SsdKernelIdeal.Ssd.final]
    simp only [hagree c]
    rfl

end Cert.Ssd

end
-- ==== Proof.lean ====
/-
  The proof of `Cert.Claim`: each program's frame is the generated one, and the value claims are the modules' of Proof/.
-/
module

public import proofs.«01_k».proof.Defs
public import proofs.«01_k».proof.Proof.Gen.FfnKernel.Frame
public import proofs.«01_k».proof.Proof.Ffn
public import proofs.«01_k».proof.Proof.Gen.ProjKernel.Frame
public import proofs.«01_k».proof.Proof.Gen.ProjKernelIdeal.Value
public import proofs.«01_k».proof.Proof.Gen.ProjReferenceIdeal.Read
public import proofs.«01_k».proof.Proof.Gen.MergeKernel.Frame
public import proofs.«01_k».proof.Proof.Gen.MergeKernelIdeal.Value
public import proofs.«01_k».proof.Proof.Gen.MergeReferenceIdeal.Read
public import proofs.«01_k».proof.Proof.Gen.MemKernel.Frame
public import proofs.«01_k».proof.Proof.Gen.MemKernelIdeal.Value
public import proofs.«01_k».proof.Proof.Gen.MemReferenceIdeal.Read
public import proofs.«01_k».proof.Proof.Gen.XattnKernel.Frame
public import proofs.«01_k».proof.Proof.Gen.XattnKernelIdeal.Value
public import proofs.«01_k».proof.Proof.Gen.XattnReferenceIdeal.Read
public import proofs.«01_k».proof.Proof.Gen.Pre_greatest_score_finite
public import proofs.«01_k».proof.Proof.Proj
public import proofs.«01_k».proof.Proof.Merge
public import proofs.«01_k».proof.Proof.Mem
public import proofs.«01_k».proof.Proof.Xattn
public import proofs.«01_k».proof.Proof.Gen.SsdKernel.Frame
public import proofs.«01_k».proof.Proof.Ssd
public import Idealize.ShloMosaic.Lib.Quiescent
public import Idealize.ShloMosaic.Adequacy
public import Idealize.ShloMosaic.Init

@[expose] public section

noncomputable section

namespace Cert.Proof

open Idealize.ShloMosaic Idealize.SL.Sem

theorem claim : Cert.Claim := ⟨Cert.FfnKernel.Gen.facts, Cert.FfnKernelIdeal.Gen.facts, Cert.FfnReferenceIdeal.Gen.facts,
  Cert.ProjKernel.Gen.facts, Cert.ProjKernelIdeal.Gen.facts, Cert.ProjReferenceIdeal.Gen.facts,
  Cert.MergeKernel.Gen.facts, Cert.MergeKernelIdeal.Gen.facts, Cert.MergeReferenceIdeal.Gen.facts,
  Cert.MemKernel.Gen.facts, Cert.MemKernelIdeal.Gen.facts, Cert.MemReferenceIdeal.Gen.facts,
  Cert.XattnKernel.Gen.facts, Cert.XattnKernelIdeal.Gen.facts, Cert.XattnReferenceIdeal.Gen.facts,
  Cert.SsdKernel.Gen.facts, Cert.SsdKernelIdeal.Gen.facts, Cert.SsdReferenceIdeal.Gen.facts,
  Cert.Pre_greatest_score_finite.Gen.facts,
  fun m ρ _ => Cert.FfnKernel.Gen.frame m ρ,
  fun m ρ _ => Cert.FfnKernelIdeal.Gen.frame m ρ,
  fun m ρ _ => θ_run_mono (Cert.FfnReferenceIdeal.Value.run (F := Ideal) m ρ)
    fun r h => ⟨fun c => (h c).2, sem_eq_zero_of_no_sems rfl r.2⟩,
  fun m ρ _ => Cert.ProjKernel.Gen.frame m ρ,
  fun m ρ _ => Cert.ProjKernelIdeal.Gen.frame m ρ,
  fun m ρ _ => θ_run_mono (Cert.ProjReferenceIdeal.Value.run (F := Ideal) m ρ)
    fun r h => ⟨fun c => (h c).2.2.2.2.2.2.2.2.2.2, sem_eq_zero_of_no_sems rfl r.2⟩,
  fun m ρ _ => Cert.MergeKernel.Gen.frame m ρ,
  fun m ρ _ => Cert.MergeKernelIdeal.Gen.frame m ρ,
  fun m ρ _ => θ_run_mono (Cert.MergeReferenceIdeal.Value.run (F := Ideal) m ρ)
    fun r h => ⟨fun c => (h c).2, sem_eq_zero_of_no_sems rfl r.2⟩,
  fun m ρ _ => Cert.MemKernel.Gen.frame m ρ,
  fun m ρ _ => Cert.MemKernelIdeal.Gen.frame m ρ,
  fun m ρ _ => θ_run_mono (Cert.MemReferenceIdeal.Value.run (F := Ideal) m ρ)
    fun r h => ⟨fun c => (h c).2, sem_eq_zero_of_no_sems rfl r.2⟩,
  fun m ρ _ => Cert.XattnKernel.Gen.frame m ρ,
  fun m ρ _ => Cert.XattnKernelIdeal.Gen.frame m ρ,
  fun m ρ _ => Cert.XattnKernelIdeal.Gen.frame m ρ,
  fun m ρ _ => θ_run_mono (Cert.XattnReferenceIdeal.Value.run (F := Ideal) m ρ)
    fun r h => ⟨fun c => (h c).2, sem_eq_zero_of_no_sems rfl r.2⟩,
  fun m ρ _ => θ_run_mono (Cert.XattnReferenceIdeal.Value.run (F := Ideal) m ρ)
    fun r h => ⟨fun c => (h c).2, sem_eq_zero_of_no_sems rfl r.2⟩,
  fun m ρ _ => Cert.SsdKernel.Gen.frame m ρ,
  fun m ρ _ => Cert.SsdKernelIdeal.Gen.frame m ρ,
  fun m ρ _ => θ_run_mono (Cert.SsdReferenceIdeal.StepRun.run_iter (F := Ideal) m ρ
      (fun c => Cert.SsdReferenceIdeal.Ssd.states (Cert.SsdReferenceIdeal.StepRun.initState m c)) (fun _ => rfl) fun _ _ => rfl)
    fun r h => ⟨fun c => (h c).2, sem_eq_zero_of_no_sems rfl r.2⟩,
  trivial,
  Cert.Ffn.algebraic,
  trivial,
  Cert.Proj.algebraic,
  trivial,
  Cert.Merge.algebraic,
  trivial,
  Cert.Mem.algebraic,
  trivial,
  Cert.Xattn.algebraic,
  IdealRules.named_const.statement Cert.SsdKernelIdeal.κ "mask" .f32 0xF149F2CA#32 ⊥ rfl,
  Cert.Ssd.algebraic⟩

end Cert.Proof

end
